-- ==== Defs.lean ====
def Pre_FwdDx (m : (ℓ : Loc Cert.FwdDx.nD Cert.FwdDx.τ Cert.FwdDx.sig) → Buf (Elt Bits) ℓ) : Prop :=
  True

def Pre_FwdDxIdeal (m : (ℓ : Loc Cert.FwdDxIdeal.nD Cert.FwdDxIdeal.τ Cert.FwdDxIdeal.sig) → Buf (Elt Ideal) ℓ) : Prop :=
  True

def Pre_FwdDxReferenceIdeal (m : (ℓ : Loc Cert.FwdDxReferenceIdeal.nD Cert.FwdDxReferenceIdeal.τ Cert.FwdDxReferenceIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_QuantX (m : (ℓ : Loc Cert.QuantX.nD Cert.QuantX.τ Cert.QuantX.sig) → Buf (Elt Bits) ℓ) : Prop :=
  True

def Pre_QuantXIdeal (m : (ℓ : Loc Cert.QuantXIdeal.nD Cert.QuantXIdeal.τ Cert.QuantXIdeal.sig) → Buf (Elt Ideal) ℓ) : Prop :=
  True

def Pre_QuantXReferenceIdeal (m : (ℓ : Loc Cert.QuantXReferenceIdeal.nD Cert.QuantXReferenceIdeal.τ Cert.QuantXReferenceIdeal.sig) → Buf (Elt Ideal) ℓ) : Prop :=
  True

def Pre_QuantW (m : (ℓ : Loc Cert.QuantW.nD Cert.QuantW.τ Cert.QuantW.sig) → Buf (Elt Bits) ℓ) : Prop :=
  True

def Pre_QuantWIdeal (m : (ℓ : Loc Cert.QuantWIdeal.nD Cert.QuantWIdeal.τ Cert.QuantWIdeal.sig) → Buf (Elt Ideal) ℓ) : Prop :=
  True

def Pre_QuantWReferenceIdeal (m : (ℓ : Loc Cert.QuantWReferenceIdeal.nD Cert.QuantWReferenceIdeal.τ Cert.QuantWReferenceIdeal.sig) → Buf (Elt Ideal) ℓ) : Prop :=
  True

def Pre_Scales (m : (ℓ : Loc Cert.Scales.nD Cert.Scales.τ Cert.Scales.sig) → Buf (Elt Bits) ℓ) : Prop :=
  True

def Pre_ScalesReference (m : (ℓ : Loc Cert.ScalesReference.nD Cert.ScalesReference.τ Cert.ScalesReference.sig) → Buf (Elt Bits) ℓ) : Prop :=
  True

def quiescent_FwdDx [hFwdDx : Cert.FwdDx.Facts] : Prop :=
  ∀ (m : (ℓ : Loc Cert.FwdDx.nD Cert.FwdDx.τ Cert.FwdDx.sig) → Buf (Elt Bits) ℓ) (g : Dev Cert.FwdDx.nD → PrngReg), Pre_FwdDx m →
    θ_run (Cert.FwdDx.defs (F := Bits)) (onTc (τ := Cert.FwdDx.τ) (Cert.FwdDx.main (F := Bits))) ⟨m, fun _ => 0, g⟩ (fun r => (∀ c : Dev Cert.FwdDx.nD,
      r.2.mem ((c.tc : Thread Cert.FwdDx.nD Cert.FwdDx.τ).loc Cert.FwdDx.main_arg0) = m ((c.tc : Thread Cert.FwdDx.nD Cert.FwdDx.τ).loc Cert.FwdDx.main_arg0)
      ∧ r.2.mem ((c.tc : Thread Cert.FwdDx.nD Cert.FwdDx.τ).loc Cert.FwdDx.main_arg1) = m ((c.tc : Thread Cert.FwdDx.nD Cert.FwdDx.τ).loc Cert.FwdDx.main_arg1)
      ∧ r.2.mem ((c.tc : Thread Cert.FwdDx.nD Cert.FwdDx.τ).loc Cert.FwdDx.main_arg2) = m ((c.tc : Thread Cert.FwdDx.nD Cert.FwdDx.τ).loc Cert.FwdDx.main_arg2)
      ∧ r.2.mem ((c.tc : Thread Cert.FwdDx.nD Cert.FwdDx.τ).loc Cert.FwdDx.main_arg3) = m ((c.tc : Thread Cert.FwdDx.nD Cert.FwdDx.τ).loc Cert.FwdDx.main_arg3)
      ∧ r.2.mem ((c.tc : Thread Cert.FwdDx.nD Cert.FwdDx.τ).loc Cert.FwdDx.main_arg4) = m ((c.tc : Thread Cert.FwdDx.nD Cert.FwdDx.τ).loc Cert.FwdDx.main_arg4))
      ∧ r.2.sem = fun _ => 0)

def quiescent_FwdDxIdeal [hFwdDxIdeal : Cert.FwdDxIdeal.Facts] : Prop :=
  ∀ (m : (ℓ : Loc Cert.FwdDxIdeal.nD Cert.FwdDxIdeal.τ Cert.FwdDxIdeal.sig) → Buf (Elt Ideal) ℓ) (g : Dev Cert.FwdDxIdeal.nD → PrngReg), Pre_FwdDxIdeal m →
    θ_run (Cert.FwdDxIdeal.defs (F := Ideal)) (onTc (τ := Cert.FwdDxIdeal.τ) (Cert.FwdDxIdeal.main (F := Ideal))) ⟨m, fun _ => 0, g⟩ (fun r => (∀ c : Dev Cert.FwdDxIdeal.nD,
      r.2.mem ((c.tc : Thread Cert.FwdDxIdeal.nD Cert.FwdDxIdeal.τ).loc Cert.FwdDxIdeal.main_arg0) = m ((c.tc : Thread Cert.FwdDxIdeal.nD Cert.FwdDxIdeal.τ).loc Cert.FwdDxIdeal.main_arg0)
      ∧ r.2.mem ((c.tc : Thread Cert.FwdDxIdeal.nD Cert.FwdDxIdeal.τ).loc Cert.FwdDxIdeal.main_arg1) = m ((c.tc : Thread Cert.FwdDxIdeal.nD Cert.FwdDxIdeal.τ).loc Cert.FwdDxIdeal.main_arg1)
      ∧ r.2.mem ((c.tc : Thread Cert.FwdDxIdeal.nD Cert.FwdDxIdeal.τ).loc Cert.FwdDxIdeal.main_arg2) = m ((c.tc : Thread Cert.FwdDxIdeal.nD Cert.FwdDxIdeal.τ).loc Cert.FwdDxIdeal.main_arg2)
      ∧ r.2.mem ((c.tc : Thread Cert.FwdDxIdeal.nD Cert.FwdDxIdeal.τ).loc Cert.FwdDxIdeal.main_arg3) = m ((c.tc : Thread Cert.FwdDxIdeal.nD Cert.FwdDxIdeal.τ).loc Cert.FwdDxIdeal.main_arg3)
      ∧ r.2.mem ((c.tc : Thread Cert.FwdDxIdeal.nD Cert.FwdDxIdeal.τ).loc Cert.FwdDxIdeal.main_arg4) = m ((c.tc : Thread Cert.FwdDxIdeal.nD Cert.FwdDxIdeal.τ).loc Cert.FwdDxIdeal.main_arg4))
      ∧ r.2.sem = fun _ => 0)

def quiescent_FwdDxReferenceIdeal [hFwdDxReferenceIdeal : Cert.FwdDxReferenceIdeal.Facts] : Prop :=
  ∀ (m : (ℓ : Loc Cert.FwdDxReferenceIdeal.nD Cert.FwdDxReferenceIdeal.τ Cert.FwdDxReferenceIdeal.sig) → Buf (Elt Ideal) ℓ) (g : Dev Cert.FwdDxReferenceIdeal.nD → PrngReg), Pre_FwdDxReferenceIdeal m →
    θ_run (Cert.FwdDxReferenceIdeal.defs (F := Ideal)) (onTc (τ := Cert.FwdDxReferenceIdeal.τ) (Cert.FwdDxReferenceIdeal.main (F := Ideal))) ⟨m, fun _ => 0, g⟩ (fun r => (∀ c : Dev Cert.FwdDxReferenceIdeal.nD,
      r.2.mem ((c.tc : Thread Cert.FwdDxReferenceIdeal.nD Cert.FwdDxReferenceIdeal.τ).loc Cert.FwdDxReferenceIdeal.main_arg0) = m ((c.tc : Thread Cert.FwdDxReferenceIdeal.nD Cert.FwdDxReferenceIdeal.τ).loc Cert.FwdDxReferenceIdeal.main_arg0)
      ∧ r.2.mem ((c.tc : Thread Cert.FwdDxReferenceIdeal.nD Cert.FwdDxReferenceIdeal.τ).loc Cert.FwdDxReferenceIdeal.main_arg1) = m ((c.tc : Thread Cert.FwdDxReferenceIdeal.nD Cert.FwdDxReferenceIdeal.τ).loc Cert.FwdDxReferenceIdeal.main_arg1)
      ∧ r.2.mem ((c.tc : Thread Cert.FwdDxReferenceIdeal.nD Cert.FwdDxReferenceIdeal.τ).loc Cert.FwdDxReferenceIdeal.main_arg2) = m ((c.tc : Thread Cert.FwdDxReferenceIdeal.nD Cert.FwdDxReferenceIdeal.τ).loc Cert.FwdDxReferenceIdeal.main_arg2)
      ∧ r.2.mem ((c.tc : Thread Cert.FwdDxReferenceIdeal.nD Cert.FwdDxReferenceIdeal.τ).loc Cert.FwdDxReferenceIdeal.main_arg3) = m ((c.tc : Thread Cert.FwdDxReferenceIdeal.nD Cert.FwdDxReferenceIdeal.τ).loc Cert.FwdDxReferenceIdeal.main_arg3)
      ∧ r.2.mem ((c.tc : Thread Cert.FwdDxReferenceIdeal.nD Cert.FwdDxReferenceIdeal.τ).loc Cert.FwdDxReferenceIdeal.main_arg4) = m ((c.tc : Thread Cert.FwdDxReferenceIdeal.nD Cert.FwdDxReferenceIdeal.τ).loc Cert.FwdDxReferenceIdeal.main_arg4))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1)
      ∧ r.2.mem ((c.tc : Thread Cert.DwReferenceIdeal.nD Cert.DwReferenceIdeal.τ).loc Cert.DwReferenceIdeal.main_arg2) = m ((c.tc : Thread Cert.DwReferenceIdeal.nD Cert.DwReferenceIdeal.τ).loc Cert.DwReferenceIdeal.main_arg2))
      ∧ r.2.sem = fun _ => 0)

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0)
      ∧ r.2.mem ((c.tc : Thread Cert.QuantX.nD Cert.QuantX.τ).loc Cert.QuantX.main_arg1) = m ((c.tc : Thread Cert.QuantX.nD Cert.QuantX.τ).loc Cert.QuantX.main_arg1)
      ∧ r.2.mem ((c.tc : Thread Cert.QuantX.nD Cert.QuantX.τ).loc Cert.QuantX.main_arg2) = m ((c.tc : Thread Cert.QuantX.nD Cert.QuantX.τ).loc Cert.QuantX.main_arg2))
      ∧ r.2.sem = fun _ => 0)

def quiescent_QuantXIdeal [hQuantXIdeal : Cert.QuantXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
      ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1)
      ∧ r.2.mem ((c.tc : Thread Cert.QuantXIdeal.nD Cert.QuantXIdeal.τ).loc Cert.QuantXIdeal.main_arg2) = m ((c.tc : Thread Cert.QuantXIdeal.nD Cert.QuantXIdeal.τ).loc Cert.QuantXIdeal.main_arg2))
      ∧ r.2.sem = fun _ => 0)

def quiescent_QuantXReferenceIdeal [hQuantXReferenceIdeal : Cert.QuantXReferenceIdeal.Facts] : Prop :=
  ∀ (m : (ℓ : Loc Cert.QuantXReferenceIdeal.nD Cert.QuantXReferenceIdeal.τ Cert.QuantXReferenceIdeal.sig) → Buf (Elt Ideal) ℓ) (g : Dev Cert.QuantXReferenceIdeal.nD → PrngReg), Pre_QuantXReferenceIdeal m →
    θ_run (Cert.QuantXReferenceIdeal.defs (F := Ideal)) (onTc (τ := Cert.QuantXReferenceIdeal.τ) (Cert.QuantXReferenceIdeal.main (F := Ideal))) ⟨m, fun _ => 0, g⟩ (fun r => (∀ c : Dev Cert.QuantXReferenceIdeal.nD,
      r.2.mem ((c.tc : Thread Cert.QuantXReferenceIdeal.nD Cert.QuantXReferenceIdeal.τ).loc Cert.QuantXReferenceIdeal.main_arg0) = m ((c.tc : Thread Cert.QuantXReferenceIdeal.nD Cert.QuantXReferenceIdeal.τ).loc Cert.QuantXReferenceIdeal.main_arg0)
      ∧ r.2.mem ((c.tc : Thread Cert.QuantXReferenceIdeal.nD Cert.QuantXReferenceIdeal.τ).loc Cert.QuantXReferenceIdeal.main_arg1) = m ((c.tc : Thread Cert.QuantXReferenceIdeal.nD Cert.QuantXReferenceIdeal.τ).loc Cert.QuantXReferenceIdeal.main_arg1)
      ∧ r.2.mem ((c.tc : Thread Cert.QuantXReferenceIdeal.nD Cert.QuantXReferenceIdeal.τ).loc Cert.QuantXReferenceIdeal.main_arg2) = m ((c.tc : Thread Cert.QuantXReferenceIdeal.nD Cert.QuantXReferenceIdeal.τ).loc Cert.QuantXReferenceIdeal.main_arg2))
      ∧ r.2.sem = fun _ => 0)

def quiescent_QuantW [hQuantW : Cert.QuantW.Facts] : Prop :=
  ∀ (m : (ℓ : Loc Cert.QuantW.nD Cert.QuantW.τ Cert.QuantW.sig) → Buf (Elt Bits) ℓ) (g : Dev Cert.QuantW.nD → PrngReg), Pre_QuantW m →
    θ_run (Cert.QuantW.defs (F := Bits)) (onTc (τ := Cert.QuantW.τ) (Cert.QuantW.main (F := Bits))) ⟨m, fun _ => 0, g⟩ (fun r => (∀ c : Dev Cert.QuantW.nD,
      r.2.mem ((c.tc : Thread Cert.QuantW.nD Cert.QuantW.τ).loc Cert.QuantW.main_arg0) = m ((c.tc : Thread Cert.QuantW.nD Cert.QuantW.τ).loc Cert.QuantW.main_arg0)
      ∧ r.2.mem ((c.tc : Thread Cert.QuantW.nD Cert.QuantW.τ).loc Cert.QuantW.main_arg1) = m ((c.tc : Thread Cert.QuantW.nD Cert.QuantW.τ).loc Cert.QuantW.main_arg1)
      ∧ r.2.mem ((c.tc : Thread Cert.QuantW.nD Cert.QuantW.τ).loc Cert.QuantW.main_arg2) = m ((c.tc : Thread Cert.QuantW.nD Cert.QuantW.τ).loc Cert.QuantW.main_arg2))
      ∧ r.2.sem = fun _ => 0)

def quiescent_QuantWIdeal [hQuantWIdeal : Cert.QuantWIdeal.Facts] : Prop :=
  ∀ (m : (ℓ : Loc Cert.QuantWIdeal.nD Cert.QuantWIdeal.τ Cert.QuantWIdeal.sig) → Buf (Elt Ideal) ℓ) (g : Dev Cert.QuantWIdeal.nD → PrngReg), Pre_QuantWIdeal m →
    θ_run (Cert.QuantWIdeal.defs (F := Ideal)) (onTc (τ := Cert.QuantWIdeal.τ) (Cert.QuantWIdeal.main (F := Ideal))) ⟨m, fun _ => 0, g⟩ (fun r => (∀ c : Dev Cert.QuantWIdeal.nD,
      r.2.mem ((c.tc : Thread Cert.QuantWIdeal.nD Cert.QuantWIdeal.τ).loc Cert.QuantWIdeal.main_arg0) = m ((c.tc : Thread Cert.QuantWIdeal.nD Cert.QuantWIdeal.τ).loc Cert.QuantWIdeal.main_arg0)
      ∧ r.2.mem ((c.tc : Thread Cert.QuantWIdeal.nD Cert.QuantWIdeal.τ).loc Cert.QuantWIdeal.main_arg1) = m ((c.tc : Thread Cert.QuantWIdeal.nD Cert.QuantWIdeal.τ).loc Cert.QuantWIdeal.main_arg1)
      ∧ r.2.mem ((c.tc : Thread Cert.QuantWIdeal.nD Cert.QuantWIdeal.τ).loc Cert.QuantWIdeal.main_arg2) = m ((c.tc : Thread Cert.QuantWIdeal.nD Cert.QuantWIdeal.τ).loc Cert.QuantWIdeal.main_arg2))
      ∧ r.2.sem = fun _ => 0)

def quiescent_QuantWReferenceIdeal [hQuantWReferenceIdeal : Cert.QuantWReferenceIdeal.Facts] : Prop :=
  ∀ (m : (ℓ : Loc Cert.QuantWReferenceIdeal.nD Cert.QuantWReferenceIdeal.τ Cert.QuantWReferenceIdeal.sig) → Buf (Elt Ideal) ℓ) (g : Dev Cert.QuantWReferenceIdeal.nD → PrngReg), Pre_QuantWReferenceIdeal m →
    θ_run (Cert.QuantWReferenceIdeal.defs (F := Ideal)) (onTc (τ := Cert.QuantWReferenceIdeal.τ) (Cert.QuantWReferenceIdeal.main (F := Ideal))) ⟨m, fun _ => 0, g⟩ (fun r => (∀ c : Dev Cert.QuantWReferenceIdeal.nD,
      r.2.mem ((c.tc : Thread Cert.QuantWReferenceIdeal.nD Cert.QuantWReferenceIdeal.τ).loc Cert.QuantWReferenceIdeal.main_arg0) = m ((c.tc : Thread Cert.QuantWReferenceIdeal.nD Cert.QuantWReferenceIdeal.τ).loc Cert.QuantWReferenceIdeal.main_arg0)
      ∧ r.2.mem ((c.tc : Thread Cert.QuantWReferenceIdeal.nD Cert.QuantWReferenceIdeal.τ).loc Cert.QuantWReferenceIdeal.main_arg1) = m ((c.tc : Thread Cert.QuantWReferenceIdeal.nD Cert.QuantWReferenceIdeal.τ).loc Cert.QuantWReferenceIdeal.main_arg1)
      ∧ r.2.mem ((c.tc : Thread Cert.QuantWReferenceIdeal.nD Cert.QuantWReferenceIdeal.τ).loc Cert.QuantWReferenceIdeal.main_arg2) = m ((c.tc : Thread Cert.QuantWReferenceIdeal.nD Cert.QuantWReferenceIdeal.τ).loc Cert.QuantWReferenceIdeal.main_arg2))
      ∧ r.2.sem = fun _ => 0)

def quiescent_Scales [hScales : Cert.Scales.Facts] : Prop :=
  ∀ (m : (ℓ : Loc Cert.Scales.nD Cert.Scales.τ Cert.Scales.sig) → Buf (Elt Bits) ℓ) (g : Dev Cert.Scales.nD → PrngReg), Pre_Scales m →
    θ_run (Cert.Scales.defs (F := Bits)) (onTc (τ := Cert.Scales.τ) (Cert.Scales.main (F := Bits))) ⟨m, fun _ => 0, g⟩ (fun r => (∀ c : Dev Cert.Scales.nD,
      r.2.mem ((c.tc : Thread Cert.Scales.nD Cert.Scales.τ).loc Cert.Scales.main_arg0) = m ((c.tc : Thread Cert.Scales.nD Cert.Scales.τ).loc Cert.Scales.main_arg0)
      ∧ r.2.mem ((c.tc : Thread Cert.Scales.nD Cert.Scales.τ).loc Cert.Scales.main_arg1) = m ((c.tc : Thread Cert.Scales.nD Cert.Scales.τ).loc Cert.Scales.main_arg1)
      ∧ r.2.mem ((c.tc : Thread Cert.Scales.nD Cert.Scales.τ).loc Cert.Scales.main_arg2) = m ((c.tc : Thread Cert.Scales.nD Cert.Scales.τ).loc Cert.Scales.main_arg2))
      ∧ r.2.sem = fun _ => 0)

def quiescent_ScalesReference [hScalesReference : Cert.ScalesReference.Facts] : Prop :=
  ∀ (m : (ℓ : Loc Cert.ScalesReference.nD Cert.ScalesReference.τ Cert.ScalesReference.sig) → Buf (Elt Bits) ℓ) (g : Dev Cert.ScalesReference.nD → PrngReg), Pre_ScalesReference m →
    θ_run (Cert.ScalesReference.defs (F := Bits)) (onTc (τ := Cert.ScalesReference.τ) (Cert.ScalesReference.main (F := Bits))) ⟨m, fun _ => 0, g⟩ (fun r => (∀ c : Dev Cert.ScalesReference.nD,
      r.2.mem ((c.tc : Thread Cert.ScalesReference.nD Cert.ScalesReference.τ).loc Cert.ScalesReference.main_arg0) = m ((c.tc : Thread Cert.ScalesReference.nD Cert.ScalesReference.τ).loc Cert.ScalesReference.main_arg0)
      ∧ r.2.mem ((c.tc : Thread Cert.ScalesReference.nD Cert.ScalesReference.τ).loc Cert.ScalesReference.main_arg1) = m ((c.tc : Thread Cert.ScalesReference.nD Cert.ScalesReference.τ).loc Cert.ScalesReference.main_arg1)
      ∧ r.2.mem ((c.tc : Thread Cert.ScalesReference.nD Cert.ScalesReference.τ).loc Cert.ScalesReference.main_arg2) = m ((c.tc : Thread Cert.ScalesReference.nD Cert.ScalesReference.τ).loc Cert.ScalesReference.main_arg2))
      ∧ r.2.sem = fun _ => 0)

def preserves_FwdDx_FwdDxIdeal : Prop :=
  True

def algebraic_FwdDxIdeal_FwdDxReferenceIdeal [hFwdDxIdeal : Cert.FwdDxIdeal.Facts] [hFwdDxReferenceIdeal : Cert.FwdDxReferenceIdeal.Facts] : Prop :=
  ∀ (m : (ℓ : Loc Cert.FwdDxIdeal.nD Cert.FwdDxIdeal.τ Cert.FwdDxIdeal.sig) → Buf (Elt Ideal) ℓ) (g : Dev Cert.FwdDxIdeal.nD → PrngReg)
    (m' : (ℓ : Loc Cert.FwdDxReferenceIdeal.nD Cert.FwdDxReferenceIdeal.τ Cert.FwdDxReferenceIdeal.sig) → Buf (Elt Ideal) ℓ) (g' : Dev Cert.FwdDxReferenceIdeal.nD → PrngReg), Pre_FwdDxIdeal m →
    (∀ c : Dev Cert.FwdDxIdeal.nD,
      m' ((c.tc : Thread Cert.FwdDxReferenceIdeal.nD Cert.FwdDxReferenceIdeal.τ).loc Cert.FwdDxReferenceIdeal.main_arg0) = m ((c.tc : Thread Cert.FwdDxIdeal.nD Cert.FwdDxIdeal.τ).loc Cert.FwdDxIdeal.main_arg0)
      ∧ m' ((c.tc : Thread Cert.FwdDxReferenceIdeal.nD Cert.FwdDxReferenceIdeal.τ).loc Cert.FwdDxReferenceIdeal.main_arg1) = m ((c.tc : Thread Cert.FwdDxIdeal.nD Cert.FwdDxIdeal.τ).loc Cert.FwdDxIdeal.main_arg1)
      ∧ m' ((c.tc : Thread Cert.FwdDxReferenceIdeal.nD Cert.FwdDxReferenceIdeal.τ).loc Cert.FwdDxReferenceIdeal.main_arg2) = m ((c.tc : Thread Cert.FwdDxIdeal.nD Cert.FwdDxIdeal.τ).loc Cert.FwdDxIdeal.main_arg2)
      ∧ m' ((c.tc : Thread Cert.FwdDxReferenceIdeal.nD Cert.FwdDxReferenceIdeal.τ).loc Cert.FwdDxReferenceIdeal.main_arg3) = m ((c.tc : Thread Cert.FwdDxIdeal.nD Cert.FwdDxIdeal.τ).loc Cert.FwdDxIdeal.main_arg3)
      ∧ m' ((c.tc : Thread Cert.FwdDxReferenceIdeal.nD Cert.FwdDxReferenceIdeal.τ).loc Cert.FwdDxReferenceIdeal.main_arg4) = m ((c.tc : Thread Cert.FwdDxIdeal.nD Cert.FwdDxIdeal.τ).loc Cert.FwdDxIdeal.main_arg4)) →
    ∃ (v0 : (c : Dev Cert.FwdDxIdeal.nD) → Buf (Elt Ideal) ((c.tc : Thread Cert.FwdDxIdeal.nD Cert.FwdDxIdeal.τ).loc Cert.FwdDxIdeal.main_v0_0)) (v1 : (c : Dev Cert.FwdDxIdeal.nD) → Buf (Elt Ideal) ((c.tc : Thread Cert.FwdDxIdeal.nD Cert.FwdDxIdeal.τ).loc Cert.FwdDxIdeal.main_v0_1)) (v2 : (c : Dev Cert.FwdDxIdeal.nD) → Buf (Elt Ideal) ((c.tc : Thread Cert.FwdDxIdeal.nD Cert.FwdDxIdeal.τ).loc Cert.FwdDxIdeal.main_v0_2)) (v3 : (c : Dev Cert.FwdDxIdeal.nD) → Buf (Elt Ideal) ((c.tc : Thread Cert.FwdDxIdeal.nD Cert.FwdDxIdeal.τ).loc Cert.FwdDxIdeal.main_v4)),
      θ_run (Cert.FwdDxIdeal.defs (F := Ideal)) (onTc (τ := Cert.FwdDxIdeal.τ) (Cert.FwdDxIdeal.main (F := Ideal))) ⟨m, fun _ => 0, g⟩ (fun r => ∀ c : Dev Cert.FwdDxIdeal.nD,
          r.2.mem ((c.tc : Thread Cert.FwdDxIdeal.nD Cert.FwdDxIdeal.τ).loc Cert.FwdDxIdeal.main_v0_0) = v0 c
          ∧ r.2.mem ((c.tc : Thread Cert.FwdDxIdeal.nD Cert.FwdDxIdeal.τ).loc Cert.FwdDxIdeal.main_v0_1) = v1 c
          ∧ r.2.mem ((c.tc : Thread Cert.FwdDxIdeal.nD Cert.FwdDxIdeal.τ).loc Cert.FwdDxIdeal.main_v0_2) = v2 c
          ∧ r.2.mem ((c.tc : Thread Cert.FwdDxIdeal.nD Cert.FwdDxIdeal.τ).loc Cert.FwdDxIdeal.main_v4) = v3 c
          ∧ r.2.mem ((c.tc : Thread Cert.FwdDxIdeal.nD Cert.FwdDxIdeal.τ).loc Cert.FwdDxIdeal.main_arg0) = m ((c.tc : Thread Cert.FwdDxIdeal.nD Cert.FwdDxIdeal.τ).loc Cert.FwdDxIdeal.main_arg0)
          ∧ r.2.mem ((c.tc : Thread Cert.FwdDxIdeal.nD Cert.FwdDxIdeal.τ).loc Cert.FwdDxIdeal.main_arg1) = m ((c.tc : Thread Cert.FwdDxIdeal.nD Cert.FwdDxIdeal.τ).loc Cert.FwdDxIdeal.main_arg1)
          ∧ r.2.mem ((c.tc : Thread Cert.FwdDxIdeal.nD Cert.FwdDxIdeal.τ).loc Cert.FwdDxIdeal.main_arg2) = m ((c.tc : Thread Cert.FwdDxIdeal.nD Cert.FwdDxIdeal.τ).loc Cert.FwdDxIdeal.main_arg2)
          ∧ r.2.mem ((c.tc : Thread Cert.FwdDxIdeal.nD Cert.FwdDxIdeal.τ).loc Cert.FwdDxIdeal.main_arg3) = m ((c.tc : Thread Cert.FwdDxIdeal.nD Cert.FwdDxIdeal.τ).loc Cert.FwdDxIdeal.main_arg3)
          ∧ r.2.mem ((c.tc : Thread Cert.FwdDxIdeal.nD Cert.FwdDxIdeal.τ).loc Cert.FwdDxIdeal.main_arg4) = m ((c.tc : Thread Cert.FwdDxIdeal.nD Cert.FwdDxIdeal.τ).loc Cert.FwdDxIdeal.main_arg4))
      ∧ θ_run (Cert.FwdDxReferenceIdeal.defs (F := Ideal)) (onTc (τ := Cert.FwdDxReferenceIdeal.τ) (Cert.FwdDxReferenceIdeal.main (F := Ideal))) ⟨m', fun _ => 0, g'⟩ (fun r => ∀ c : Dev Cert.FwdDxReferenceIdeal.nD,
          r.2.mem ((c.tc : Thread Cert.FwdDxReferenceIdeal.nD Cert.FwdDxReferenceIdeal.τ).loc Cert.FwdDxReferenceIdeal.main_v1) = v0 c
          ∧ r.2.mem ((c.tc : Thread Cert.FwdDxReferenceIdeal.nD Cert.FwdDxReferenceIdeal.τ).loc Cert.FwdDxReferenceIdeal.main_v2) = v1 c
          ∧ r.2.mem ((c.tc : Thread Cert.FwdDxReferenceIdeal.nD Cert.FwdDxReferenceIdeal.τ).loc Cert.FwdDxReferenceIdeal.main_v0_2) = v2 c
          ∧ r.2.mem ((c.tc : Thread Cert.FwdDxReferenceIdeal.nD Cert.FwdDxReferenceIdeal.τ).loc Cert.FwdDxReferenceIdeal.main_v8) = v3 c
          ∧ r.2.mem ((c.tc : Thread Cert.FwdDxReferenceIdeal.nD Cert.FwdDxReferenceIdeal.τ).loc Cert.FwdDxReferenceIdeal.main_arg0) = m' ((c.tc : Thread Cert.FwdDxReferenceIdeal.nD Cert.FwdDxReferenceIdeal.τ).loc Cert.FwdDxReferenceIdeal.main_arg0)
          ∧ r.2.mem ((c.tc : Thread Cert.FwdDxReferenceIdeal.nD Cert.FwdDxReferenceIdeal.τ).loc Cert.FwdDxReferenceIdeal.main_arg1) = m' ((c.tc : Thread Cert.FwdDxReferenceIdeal.nD Cert.FwdDxReferenceIdeal.τ).loc Cert.FwdDxReferenceIdeal.main_arg1)
          ∧ r.2.mem ((c.tc : Thread Cert.FwdDxReferenceIdeal.nD Cert.FwdDxReferenceIdeal.τ).loc Cert.FwdDxReferenceIdeal.main_arg2) = m' ((c.tc : Thread Cert.FwdDxReferenceIdeal.nD Cert.FwdDxReferenceIdeal.τ).loc Cert.FwdDxReferenceIdeal.main_arg2)
          ∧ r.2.mem ((c.tc : Thread Cert.FwdDxReferenceIdeal.nD Cert.FwdDxReferenceIdeal.τ).loc Cert.FwdDxReferenceIdeal.main_arg3) = m' ((c.tc : Thread Cert.FwdDxReferenceIdeal.nD Cert.FwdDxReferenceIdeal.τ).loc Cert.FwdDxReferenceIdeal.main_arg3)
          ∧ r.2.mem ((c.tc : Thread Cert.FwdDxReferenceIdeal.nD Cert.FwdDxReferenceIdeal.τ).loc Cert.FwdDxReferenceIdeal.main_arg4) = m' ((c.tc : Thread Cert.FwdDxReferenceIdeal.nD Cert.FwdDxReferenceIdeal.τ).loc Cert.FwdDxReferenceIdeal.main_arg4))

def preserves_Dw_DwIdeal : Prop :=
  True

def algebraic_DwIdeal_DwReferenceIdeal [hDwIdeal : Cert.DwIdeal.Facts] [hDwReferenceIdeal : Cert.DwReferenceIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwIdeal m →
    (∀ c : Dev Cert.DwIdeal.nD,
      m' ((c.tc : Thread Cert.DwReferenceIdeal.nD Cert.DwReferenceIdeal.τ).loc Cert.DwReferenceIdeal.main_arg0) = m ((c.tc : Thread Cert.DwIdeal.nD Cert.DwIdeal.τ).loc Cert.DwIdeal.main_arg0)
      ∧ m' ((c.tc : Thread Cert.DwReferenceIdeal.nD Cert.DwReferenceIdeal.τ).loc Cert.DwReferenceIdeal.main_arg1) = m ((c.tc : Thread Cert.DwIdeal.nD Cert.DwIdeal.τ).loc Cert.DwIdeal.main_arg1)
      ∧ m' ((c.tc : Thread Cert.DwReferenceIdeal.nD Cert.DwReferenceIdeal.τ).loc Cert.DwReferenceIdeal.main_arg2) = m ((c.tc : Thread Cert.DwIdeal.nD Cert.DwIdeal.τ).loc Cert.DwIdeal.main_arg2)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v0) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1)
          ∧ r.2.mem ((c.tc : Thread Cert.DwReferenceIdeal.nD Cert.DwReferenceIdeal.τ).loc Cert.DwReferenceIdeal.main_arg2) = m' ((c.tc : Thread Cert.DwReferenceIdeal.nD Cert.DwReferenceIdeal.τ).loc Cert.DwReferenceIdeal.main_arg2))

def preserves_QuantX_QuantXIdeal : Prop :=
  True

def algebraic_QuantXIdeal_QuantXReferenceIdeal [hQuantXIdeal : Cert.QuantXIdeal.Facts] [hQuantXReferenceIdeal : Cert.QuantXReferenceIdeal.Facts] : Prop :=
  ∀ (m : (ℓ : Loc Cert.QuantXIdeal.nD Cert.QuantXIdeal.τ Cert.QuantXIdeal.sig) → Buf (Elt Ideal) ℓ) (g : Dev Cert.QuantXIdeal.nD → PrngReg)
    (m' : (ℓ : Loc Cert.QuantXReferenceIdeal.nD Cert.QuantXReferenceIdeal.τ Cert.QuantXReferenceIdeal.sig) → Buf (Elt Ideal) ℓ) (g' : Dev Cert.QuantXReferenceIdeal.nD → PrngReg), Pre_QuantXIdeal m →
    (∀ c : Dev Cert.QuantXIdeal.nD,
      m' ((c.tc : Thread Cert.QuantXReferenceIdeal.nD Cert.QuantXReferenceIdeal.τ).loc Cert.QuantXReferenceIdeal.main_arg0) = m ((c.tc : Thread Cert.QuantXIdeal.nD Cert.QuantXIdeal.τ).loc Cert.QuantXIdeal.main_arg0)
      ∧ m' ((c.tc : Thread Cert.QuantXReferenceIdeal.nD Cert.QuantXReferenceIdeal.τ).loc Cert.QuantXReferenceIdeal.main_arg1) = m ((c.tc : Thread Cert.QuantXIdeal.nD Cert.QuantXIdeal.τ).loc Cert.QuantXIdeal.main_arg1)
      ∧ m' ((c.tc : Thread Cert.QuantXReferenceIdeal.nD Cert.QuantXReferenceIdeal.τ).loc Cert.QuantXReferenceIdeal.main_arg2) = m ((c.tc : Thread Cert.QuantXIdeal.nD Cert.QuantXIdeal.τ).loc Cert.QuantXIdeal.main_arg2)) →
    ∃ (v0 : (c : Dev Cert.QuantXIdeal.nD) → Buf (Elt Ideal) ((c.tc : Thread Cert.QuantXIdeal.nD Cert.QuantXIdeal.τ).loc Cert.QuantXIdeal.main_v0_0)) (v1 : (c : Dev Cert.QuantXIdeal.nD) → Buf (Elt Ideal) ((c.tc : Thread Cert.QuantXIdeal.nD Cert.QuantXIdeal.τ).loc Cert.QuantXIdeal.main_v4)),
      θ_run (Cert.QuantXIdeal.defs (F := Ideal)) (onTc (τ := Cert.QuantXIdeal.τ) (Cert.QuantXIdeal.main (F := Ideal))) ⟨m, fun _ => 0, g⟩ (fun r => ∀ c : Dev Cert.QuantXIdeal.nD,
          r.2.mem ((c.tc : Thread Cert.QuantXIdeal.nD Cert.QuantXIdeal.τ).loc Cert.QuantXIdeal.main_v0_0) = v0 c
          ∧ r.2.mem ((c.tc : Thread Cert.QuantXIdeal.nD Cert.QuantXIdeal.τ).loc Cert.QuantXIdeal.main_v4) = v1 c
          ∧ r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
          ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1)
          ∧ r.2.mem ((c.tc : Thread Cert.QuantXIdeal.nD Cert.QuantXIdeal.τ).loc Cert.QuantXIdeal.main_arg2) = m ((c.tc : Thread Cert.QuantXIdeal.nD Cert.QuantXIdeal.τ).loc Cert.QuantXIdeal.main_arg2))
      ∧ θ_run (Cert.QuantXReferenceIdeal.defs (F := Ideal)) (onTc (τ := Cert.QuantXReferenceIdeal.τ) (Cert.QuantXReferenceIdeal.main (F := Ideal))) ⟨m', fun _ => 0, g'⟩ (fun r => ∀ c : Dev Cert.QuantXReferenceIdeal.nD,
          r.2.mem ((c.tc : Thread Cert.QuantXReferenceIdeal.nD Cert.QuantXReferenceIdeal.τ).loc Cert.QuantXReferenceIdeal.main_v0) = v0 c
          ∧ r.2.mem ((c.tc : Thread Cert.QuantXReferenceIdeal.nD Cert.QuantXReferenceIdeal.τ).loc Cert.QuantXReferenceIdeal.main_v6) = v1 c
          ∧ r.2.mem ((c.tc : Thread Cert.QuantXReferenceIdeal.nD Cert.QuantXReferenceIdeal.τ).loc Cert.QuantXReferenceIdeal.main_arg0) = m' ((c.tc : Thread Cert.QuantXReferenceIdeal.nD Cert.QuantXReferenceIdeal.τ).loc Cert.QuantXReferenceIdeal.main_arg0)
          ∧ r.2.mem ((c.tc : Thread Cert.QuantXReferenceIdeal.nD Cert.QuantXReferenceIdeal.τ).loc Cert.QuantXReferenceIdeal.main_arg1) = m' ((c.tc : Thread Cert.QuantXReferenceIdeal.nD Cert.QuantXReferenceIdeal.τ).loc Cert.QuantXReferenceIdeal.main_arg1)
          ∧ r.2.mem ((c.tc : Thread Cert.QuantXReferenceIdeal.nD Cert.QuantXReferenceIdeal.τ).loc Cert.QuantXReferenceIdeal.main_arg2) = m' ((c.tc : Thread Cert.QuantXReferenceIdeal.nD Cert.QuantXReferenceIdeal.τ).loc Cert.QuantXReferenceIdeal.main_arg2))

def preserves_QuantW_QuantWIdeal : Prop :=
  True

def algebraic_QuantWIdeal_QuantWReferenceIdeal [hQuantWIdeal : Cert.QuantWIdeal.Facts] [hQuantWReferenceIdeal : Cert.QuantWReferenceIdeal.Facts] : Prop :=
  ∀ (m : (ℓ : Loc Cert.QuantWIdeal.nD Cert.QuantWIdeal.τ Cert.QuantWIdeal.sig) → Buf (Elt Ideal) ℓ) (g : Dev Cert.QuantWIdeal.nD → PrngReg)
    (m' : (ℓ : Loc Cert.QuantWReferenceIdeal.nD Cert.QuantWReferenceIdeal.τ Cert.QuantWReferenceIdeal.sig) → Buf (Elt Ideal) ℓ) (g' : Dev Cert.QuantWReferenceIdeal.nD → PrngReg), Pre_QuantWIdeal m →
    (∀ c : Dev Cert.QuantWIdeal.nD,
      m' ((c.tc : Thread Cert.QuantWReferenceIdeal.nD Cert.QuantWReferenceIdeal.τ).loc Cert.QuantWReferenceIdeal.main_arg0) = m ((c.tc : Thread Cert.QuantWIdeal.nD Cert.QuantWIdeal.τ).loc Cert.QuantWIdeal.main_arg0)
      ∧ m' ((c.tc : Thread Cert.QuantWReferenceIdeal.nD Cert.QuantWReferenceIdeal.τ).loc Cert.QuantWReferenceIdeal.main_arg1) = m ((c.tc : Thread Cert.QuantWIdeal.nD Cert.QuantWIdeal.τ).loc Cert.QuantWIdeal.main_arg1)
      ∧ m' ((c.tc : Thread Cert.QuantWReferenceIdeal.nD Cert.QuantWReferenceIdeal.τ).loc Cert.QuantWReferenceIdeal.main_arg2) = m ((c.tc : Thread Cert.QuantWIdeal.nD Cert.QuantWIdeal.τ).loc Cert.QuantWIdeal.main_arg2)) →
    ∃ (v0 : (c : Dev Cert.QuantWIdeal.nD) → Buf (Elt Ideal) ((c.tc : Thread Cert.QuantWIdeal.nD Cert.QuantWIdeal.τ).loc Cert.QuantWIdeal.main_v0_0)) (v1 : (c : Dev Cert.QuantWIdeal.nD) → Buf (Elt Ideal) ((c.tc : Thread Cert.QuantWIdeal.nD Cert.QuantWIdeal.τ).loc Cert.QuantWIdeal.main_v4)),
      θ_run (Cert.QuantWIdeal.defs (F := Ideal)) (onTc (τ := Cert.QuantWIdeal.τ) (Cert.QuantWIdeal.main (F := Ideal))) ⟨m, fun _ => 0, g⟩ (fun r => ∀ c : Dev Cert.QuantWIdeal.nD,
          r.2.mem ((c.tc : Thread Cert.QuantWIdeal.nD Cert.QuantWIdeal.τ).loc Cert.QuantWIdeal.main_v0_0) = v0 c
          ∧ r.2.mem ((c.tc : Thread Cert.QuantWIdeal.nD Cert.QuantWIdeal.τ).loc Cert.QuantWIdeal.main_v4) = v1 c
          ∧ r.2.mem ((c.tc : Thread Cert.QuantWIdeal.nD Cert.QuantWIdeal.τ).loc Cert.QuantWIdeal.main_arg0) = m ((c.tc : Thread Cert.QuantWIdeal.nD Cert.QuantWIdeal.τ).loc Cert.QuantWIdeal.main_arg0)
          ∧ r.2.mem ((c.tc : Thread Cert.QuantWIdeal.nD Cert.QuantWIdeal.τ).loc Cert.QuantWIdeal.main_arg1) = m ((c.tc : Thread Cert.QuantWIdeal.nD Cert.QuantWIdeal.τ).loc Cert.QuantWIdeal.main_arg1)
          ∧ r.2.mem ((c.tc : Thread Cert.QuantWIdeal.nD Cert.QuantWIdeal.τ).loc Cert.QuantWIdeal.main_arg2) = m ((c.tc : Thread Cert.QuantWIdeal.nD Cert.QuantWIdeal.τ).loc Cert.QuantWIdeal.main_arg2))
      ∧ θ_run (Cert.QuantWReferenceIdeal.defs (F := Ideal)) (onTc (τ := Cert.QuantWReferenceIdeal.τ) (Cert.QuantWReferenceIdeal.main (F := Ideal))) ⟨m', fun _ => 0, g'⟩ (fun r => ∀ c : Dev Cert.QuantWReferenceIdeal.nD,
          r.2.mem ((c.tc : Thread Cert.QuantWReferenceIdeal.nD Cert.QuantWReferenceIdeal.τ).loc Cert.QuantWReferenceIdeal.main_v0) = v0 c
          ∧ r.2.mem ((c.tc : Thread Cert.QuantWReferenceIdeal.nD Cert.QuantWReferenceIdeal.τ).loc Cert.QuantWReferenceIdeal.main_v5) = v1 c
          ∧ r.2.mem ((c.tc : Thread Cert.QuantWReferenceIdeal.nD Cert.QuantWReferenceIdeal.τ).loc Cert.QuantWReferenceIdeal.main_arg0) = m' ((c.tc : Thread Cert.QuantWReferenceIdeal.nD Cert.QuantWReferenceIdeal.τ).loc Cert.QuantWReferenceIdeal.main_arg0)
          ∧ r.2.mem ((c.tc : Thread Cert.QuantWReferenceIdeal.nD Cert.QuantWReferenceIdeal.τ).loc Cert.QuantWReferenceIdeal.main_arg1) = m' ((c.tc : Thread Cert.QuantWReferenceIdeal.nD Cert.QuantWReferenceIdeal.τ).loc Cert.QuantWReferenceIdeal.main_arg1)
          ∧ r.2.mem ((c.tc : Thread Cert.QuantWReferenceIdeal.nD Cert.QuantWReferenceIdeal.τ).loc Cert.QuantWReferenceIdeal.main_arg2) = m' ((c.tc : Thread Cert.QuantWReferenceIdeal.nD Cert.QuantWReferenceIdeal.τ).loc Cert.QuantWReferenceIdeal.main_arg2))

def bitexact_Scales_ScalesReference [hScales : Cert.Scales.Facts] [hScalesReference : Cert.ScalesReference.Facts] : Prop :=
  ∀ (m : (ℓ : Loc Cert.Scales.nD Cert.Scales.τ Cert.Scales.sig) → Buf (Elt Bits) ℓ) (g : Dev Cert.Scales.nD → PrngReg)
    (m' : (ℓ : Loc Cert.ScalesReference.nD Cert.ScalesReference.τ Cert.ScalesReference.sig) → Buf (Elt Bits) ℓ) (g' : Dev Cert.ScalesReference.nD → PrngReg), Pre_Scales m →
    (∀ c : Dev Cert.Scales.nD,
      m' ((c.tc : Thread Cert.ScalesReference.nD Cert.ScalesReference.τ).loc Cert.ScalesReference.main_arg0) = m ((c.tc : Thread Cert.Scales.nD Cert.Scales.τ).loc Cert.Scales.main_arg0)
      ∧ m' ((c.tc : Thread Cert.ScalesReference.nD Cert.ScalesReference.τ).loc Cert.ScalesReference.main_arg1) = m ((c.tc : Thread Cert.Scales.nD Cert.Scales.τ).loc Cert.Scales.main_arg1)
      ∧ m' ((c.tc : Thread Cert.ScalesReference.nD Cert.ScalesReference.τ).loc Cert.ScalesReference.main_arg2) = m ((c.tc : Thread Cert.Scales.nD Cert.Scales.τ).loc Cert.Scales.main_arg2)) →
    ∃ (v0 : (c : Dev Cert.Scales.nD) → Buf (Elt Bits) ((c.tc : Thread Cert.Scales.nD Cert.Scales.τ).loc Cert.Scales.main_v3)),
      θ_run (Cert.Scales.defs (F := Bits)) (onTc (τ := Cert.Scales.τ) (Cert.Scales.main (F := Bits))) ⟨m, fun _ => 0, g⟩ (fun r => ∀ c : Dev Cert.Scales.nD,
          r.2.mem ((c.tc : Thread Cert.Scales.nD Cert.Scales.τ).loc Cert.Scales.main_v3) = v0 c
          ∧ r.2.mem ((c.tc : Thread Cert.Scales.nD Cert.Scales.τ).loc Cert.Scales.main_arg0) = m ((c.tc : Thread Cert.Scales.nD Cert.Scales.τ).loc Cert.Scales.main_arg0)
          ∧ r.2.mem ((c.tc : Thread Cert.Scales.nD Cert.Scales.τ).loc Cert.Scales.main_arg1) = m ((c.tc : Thread Cert.Scales.nD Cert.Scales.τ).loc Cert.Scales.main_arg1)
          ∧ r.2.mem ((c.tc : Thread Cert.Scales.nD Cert.Scales.τ).loc Cert.Scales.main_arg2) = m ((c.tc : Thread Cert.Scales.nD Cert.Scales.τ).loc Cert.Scales.main_arg2))
      ∧ θ_run (Cert.ScalesReference.defs (F := Bits)) (onTc (τ := Cert.ScalesReference.τ) (Cert.ScalesReference.main (F := Bits))) ⟨m', fun _ => 0, g'⟩ (fun r => ∀ c : Dev Cert.ScalesReference.nD,
          r.2.mem ((c.tc : Thread Cert.ScalesReference.nD Cert.ScalesReference.τ).loc Cert.ScalesReference.main_v3) = v0 c
          ∧ r.2.mem ((c.tc : Thread Cert.ScalesReference.nD Cert.ScalesReference.τ).loc Cert.ScalesReference.main_arg0) = m' ((c.tc : Thread Cert.ScalesReference.nD Cert.ScalesReference.τ).loc Cert.ScalesReference.main_arg0)
          ∧ r.2.mem ((c.tc : Thread Cert.ScalesReference.nD Cert.ScalesReference.τ).loc Cert.ScalesReference.main_arg1) = m' ((c.tc : Thread Cert.ScalesReference.nD Cert.ScalesReference.τ).loc Cert.ScalesReference.main_arg1)
          ∧ r.2.mem ((c.tc : Thread Cert.ScalesReference.nD Cert.ScalesReference.τ).loc Cert.ScalesReference.main_arg2) = m' ((c.tc : Thread Cert.ScalesReference.nD Cert.ScalesReference.τ).loc Cert.ScalesReference.main_arg2))

def Claim : Prop :=
  ∃ (hFwdDx : Cert.FwdDx.Facts) (hFwdDxIdeal : Cert.FwdDxIdeal.Facts) (hFwdDxReferenceIdeal : Cert.FwdDxReferenceIdeal.Facts) (hDw : Cert.Dw.Facts) (hDwIdeal : Cert.DwIdeal.Facts) (hDwReferenceIdeal : Cert.DwReferenceIdeal.Facts) (hQuantX : Cert.QuantX.Facts) (hQuantXIdeal : Cert.QuantXIdeal.Facts) (hQuantXReferenceIdeal : Cert.QuantXReferenceIdeal.Facts) (hQuantW : Cert.QuantW.Facts) (hQuantWIdeal : Cert.QuantWIdeal.Facts) (hQuantWReferenceIdeal : Cert.QuantWReferenceIdeal.Facts) (hScales : Cert.Scales.Facts) (hScalesReference : Cert.ScalesReference.Facts),
    quiescent_FwdDx (hFwdDx := hFwdDx)
    ∧ quiescent_FwdDxIdeal (hFwdDxIdeal := hFwdDxIdeal)
    ∧ quiescent_FwdDxReferenceIdeal (hFwdDxReferenceIdeal := hFwdDxReferenceIdeal)
    ∧ quiescent_Dw (hDw := hDw)
    ∧ quiescent_DwIdeal (hDwIdeal := hDwIdeal)
    ∧ quiescent_DwReferenceIdeal (hDwReferenceIdeal := hDwReferenceIdeal)
    ∧ quiescent_QuantX (hQuantX := hQuantX)
    ∧ quiescent_QuantXIdeal (hQuantXIdeal := hQuantXIdeal)
    ∧ quiescent_QuantXReferenceIdeal (hQuantXReferenceIdeal := hQuantXReferenceIdeal)
    ∧ quiescent_QuantW (hQuantW := hQuantW)
    ∧ quiescent_QuantWIdeal (hQuantWIdeal := hQuantWIdeal)
    ∧ quiescent_QuantWReferenceIdeal (hQuantWReferenceIdeal := hQuantWReferenceIdeal)
    ∧ quiescent_Scales (hScales := hScales)
    ∧ quiescent_ScalesReference (hScalesReference := hScalesReference)
    ∧ preserves_FwdDx_FwdDxIdeal
    ∧ algebraic_FwdDxIdeal_FwdDxReferenceIdeal (hFwdDxIdeal := hFwdDxIdeal) (hFwdDxReferenceIdeal := hFwdDxReferenceIdeal)
    ∧ preserves_Dw_DwIdeal
    ∧ algebraic_DwIdeal_DwReferenceIdeal (hDwIdeal := hDwIdeal) (hDwReferenceIdeal := hDwReferenceIdeal)
    ∧ preserves_QuantX_QuantXIdeal
    ∧ algebraic_QuantXIdeal_QuantXReferenceIdeal (hQuantXIdeal := hQuantXIdeal) (hQuantXReferenceIdeal := hQuantXReferenceIdeal)
    ∧ preserves_QuantW_QuantWIdeal
    ∧ algebraic_QuantWIdeal_QuantWReferenceIdeal (hQuantWIdeal := hQuantWIdeal) (hQuantWReferenceIdeal := hQuantWReferenceIdeal)
    ∧ bitexact_Scales_ScalesReference (hScales := hScales) (hScalesReference := hScalesReference)
-- ==== FwdDx.lean ====
abbrev S8x128 : Shape := ⟨2, ![8, 128]⟩
abbrev S24576x1536 : Shape := ⟨2, ![24576, 1536]⟩
abbrev S1536x16896 : Shape := ⟨2, ![1536, 16896]⟩
abbrev S24576x16896 : Shape := ⟨2, ![24576, 16896]⟩
abbrev S16 : Shape := ⟨1, ![16]⟩
abbrev S3072x8x16896 : Shape := ⟨3, ![3072, 8, 16896]⟩
abbrev S3072x8x1536 : Shape := ⟨3, ![3072, 8, 1536]⟩
abbrev S512x1536 : Shape := ⟨2, ![512, 1536]⟩
abbrev S64x8x1536 : Shape := ⟨3, ![64, 8, 1536]⟩
abbrev S16x128 : Shape := ⟨2, ![16, 128]⟩
abbrev S1x1 : Shape := ⟨2, ![1, 1]⟩
abbrev S32x16x1536 : Shape := ⟨3, ![32, 16, 1536]⟩
abbrev S16x1536 : Shape := ⟨2, ![16, 1536]⟩
abbrev S1536x1536 : Shape := ⟨2, ![1536, 1536]⟩
abbrev S1x16x128 : Shape := ⟨3, ![1, 16, 128]⟩
abbrev S1 : Shape := ⟨1, ![1]⟩
abbrev S1x1x1 : Shape := ⟨3, ![1, 1, 1]⟩
abbrev S15 : Shape := ⟨1, ![15]⟩

abbrev nBuf : Space → Nat
  | .hbm => 13
  | .vmem => 14
  | .smem => 1
  | _ => 0

abbrev bufTy : (tb : Table) → Fin (tcTables nBuf tb) → BufTy
  | .hbm, ⟨0, _⟩ => ⟨S8x128, .f32⟩
  | .hbm, ⟨1, _⟩ => ⟨S24576x1536, .fp8e4m3⟩
  | .hbm, ⟨2, _⟩ => ⟨S1536x16896, .fp8e4m3⟩
  | .hbm, ⟨3, _⟩ => ⟨S24576x16896, .bf16⟩
  | .hbm, ⟨4, _⟩ => ⟨S16, .f32⟩
  | .hbm, ⟨5, _⟩ => ⟨S3072x8x16896, .bf16⟩
  | .hbm, ⟨6, _⟩ => ⟨S3072x8x1536, .bf16⟩
  | .hbm, ⟨7, _⟩ => ⟨S24576x16896, .fp8e5m2⟩
  | .hbm, ⟨8, _⟩ => ⟨S8x128, .f32⟩
  | .hbm, ⟨9, _⟩ => ⟨S15, .f32⟩
  | .hbm, ⟨10, _⟩ => ⟨S1x1, .f32⟩
  | .hbm, ⟨11, _⟩ => ⟨S1, .f32⟩
  | .hbm, ⟨12, _⟩ => ⟨S16, .f32⟩
  | .local _ .vmem, ⟨0, _⟩ => ⟨S512x1536, .fp8e4m3⟩
  | .local _ .vmem, ⟨1, _⟩ => ⟨S512x1536, .fp8e4m3⟩
  | .local _ .vmem, ⟨2, _⟩ => ⟨S1536x16896, .fp8e4m3⟩
  | .local _ .vmem, ⟨3, _⟩ => ⟨S512x1536, .bf16⟩
  | .local _ .vmem, ⟨4, _⟩ => ⟨S512x1536, .bf16⟩
  | .local _ .vmem, ⟨5, _⟩ => ⟨S64x8x1536, .bf16⟩
  | .local _ .vmem, ⟨6, _⟩ => ⟨S64x8x1536, .bf16⟩
  | .local _ .vmem, ⟨7, _⟩ => ⟨S64x8x1536, .bf16⟩
  | .local _ .vmem, ⟨8, _⟩ => ⟨S64x8x1536, .bf16⟩
  | .local _ .vmem, ⟨9, _⟩ => ⟨S512x1536, .fp8e5m2⟩
  | .local _ .vmem, ⟨10, _⟩ => ⟨S512x1536, .fp8e5m2⟩
  | .local _ .vmem, ⟨11, _⟩ => ⟨S8x128, .f32⟩
  | .local _ .vmem, ⟨12, _⟩ => ⟨S512x1536, .f32⟩
  | .local _ .vmem, ⟨13, _⟩ => ⟨S16x128, .bf16⟩
  | .local _ .smem, ⟨0, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![48, 11], ![false, false]⟩

def k0_mult1 (i : grid0.Coords) : BitVec 32 :=
  let arg1 : BitVec 32 := BitVec.ofNat 32 (i 1).val
  let c1536_i32 : BitVec 32 := 1536#32
  let v0 : BitVec 32 := Scalar.muli arg1 c1536_i32
  v0
def k0_off1 (i : grid0.Coords) : Fin 2 → Nat :=
  let c0_16 : Index := 0#32
  let arg1 : BitVec 32 := BitVec.ofNat 32 (i 1).val
  let c1536_i32 : BitVec 32 := 1536#32
  let v0 : BitVec 32 := Scalar.muli arg1 c1536_i32
  let v1 : BitVec 32 := v0
  let v56 : Index := Scalar.indexCast v1
  ![0, v56.toNat]
def k0_cond3 (i : grid0.Coords) : BitVec 1 :=
  let arg1 : BitVec 32 := BitVec.ofNat 32 (i 1).val
  let c10_i32 : BitVec 32 := 10#32
  let v77 : BitVec 1 := Scalar.cmpi .eq arg1 c10_i32
  let v78 : BitVec 32 := Scalar.extui v77
  let c0_i32_32 : BitVec 32 := 0#32
  let v79 : BitVec 1 := Scalar.cmpi .ne v78 c0_i32_32
  v79

def k0_cond4 (i : grid0.Coords) : BitVec 1 :=
  let arg0 : BitVec 32 := BitVec.ofNat 32 (i 0).val
  let c47_i32 : BitVec 32 := 47#32
  let v80 : BitVec 1 := Scalar.cmpi .eq arg0 c47_i32
  let arg1 : BitVec 32 := BitVec.ofNat 32 (i 1).val
  let c10_i32_33 : BitVec 32 := 10#32
  let v81 : BitVec 1 := Scalar.cmpi .eq arg1 c10_i32_33
  let v82 : BitVec 1 := Scalar.andi v80 v81
  let v83 : BitVec 32 := Scalar.extui v82
  let c0_i32_34 : BitVec 32 := 0#32
  let v84 : BitVec 1 := Scalar.cmpi .ne v83 c0_i32_34
  v84

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1536 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1536x16896 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x8x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x8x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1536 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== FwdDxReferenceIdeal.lean ====
abbrev S8x128 : Shape := ⟨2, ![8, 128]⟩
abbrev S24576x1536 : Shape := ⟨2, ![24576, 1536]⟩
abbrev S1536x16896 : Shape := ⟨2, ![1536, 16896]⟩
abbrev S24576x16896 : Shape := ⟨2, ![24576, 16896]⟩
abbrev S16 : Shape := ⟨1, ![16]⟩
abbrev S1x1 : Shape := ⟨2, ![1, 1]⟩
abbrev S3072x8x16896 : Shape := ⟨3, ![3072, 8, 16896]⟩
abbrev S3072x8x1536 : Shape := ⟨3, ![3072, 8, 1536]⟩
abbrev S_ : Shape := ⟨0, ![]⟩
abbrev S15 : Shape := ⟨1, ![15]⟩
abbrev S1 : Shape := ⟨1, ![1]⟩

abbrev nBuf : Space → Nat
  | .hbm => 17
  | .vmem => 6
  | .smem => 1
  | _ => 0

abbrev bufTy : (tb : Table) → Fin (tcTables nBuf tb) → BufTy
  | .hbm, ⟨0, _⟩ => ⟨S8x128, .f32⟩
  | .hbm, ⟨1, _⟩ => ⟨S24576x1536, .fp8e4m3⟩
  | .hbm, ⟨2, _⟩ => ⟨S1536x16896, .fp8e4m3⟩
  | .hbm, ⟨3, _⟩ => ⟨S24576x16896, .bf16⟩
  | .hbm, ⟨4, _⟩ => ⟨S16, .f32⟩
  | .hbm, ⟨5, _⟩ => ⟨S24576x16896, .bf16⟩
  | .hbm, ⟨6, _⟩ => ⟨S24576x1536, .bf16⟩
  | .hbm, ⟨7, _⟩ => ⟨S24576x16896, .fp8e5m2⟩
  | .hbm, ⟨8, _⟩ => ⟨S3072x8x16896, .bf16⟩
  | .hbm, ⟨9, _⟩ => ⟨S3072x8x1536, .bf16⟩
  | .hbm, ⟨10, _⟩ => ⟨S24576x16896, .bf16⟩
  | .hbm, ⟨11, _⟩ => ⟨S_, .bf16⟩
  | .hbm, ⟨12, _⟩ => ⟨S_, .bf16⟩
  | .hbm, ⟨13, _⟩ => ⟨S_, .f32⟩
  | .hbm, ⟨14, _⟩ => ⟨S15, .f32⟩
  | .hbm, ⟨15, _⟩ => ⟨S1, .f32⟩
  | .hbm, ⟨16, _⟩ => ⟨S16, .f32⟩
  | .local _ .vmem, ⟨0, _⟩ => ⟨S24576x1536, .fp8e4m3⟩
  | .local _ .vmem, ⟨1, _⟩ => ⟨S1536x16896, .fp8e4m3⟩
  | .local _ .vmem, ⟨2, _⟩ => ⟨S24576x16896, .bf16⟩
  | .local _ .vmem, ⟨3, _⟩ => ⟨S24576x16896, .bf16⟩
  | .local _ .vmem, ⟨4, _⟩ => ⟨S24576x1536, .bf16⟩
  | .local _ .vmem, ⟨5, _⟩ => ⟨S24576x16896, .fp8e5m2⟩
  | .local _ .smem, ⟨0, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x16896 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x16896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x16896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x16896 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Dw.lean ====
abbrev S8x128 : Shape := ⟨2, ![8, 128]⟩
abbrev S24576x1536 : Shape := ⟨2, ![24576, 1536]⟩
abbrev S24576x16896 : Shape := ⟨2, ![24576, 16896]⟩
abbrev S1536x16896 : Shape := ⟨2, ![1536, 16896]⟩
abbrev S2048x1536 : Shape := ⟨2, ![2048, 1536]⟩
abbrev S1536x1536 : Shape := ⟨2, ![1536, 1536]⟩
abbrev S1x1 : Shape := ⟨2, ![1, 1]⟩

abbrev nBuf : Space → Nat
  | .hbm => 4
  | .vmem => 6
  | .smem => 1
  | _ => 0

abbrev bufTy : (tb : Table) → Fin (tcTables nBuf tb) → BufTy
  | .hbm, ⟨0, _⟩ => ⟨S8x128, .f32⟩
  | .hbm, ⟨1, _⟩ => ⟨S24576x1536, .fp8e4m3⟩
  | .hbm, ⟨2, _⟩ => ⟨S24576x16896, .fp8e5m2⟩
  | .hbm, ⟨3, _⟩ => ⟨S1536x16896, .f32⟩
  | .local _ .vmem, ⟨0, _⟩ => ⟨S2048x1536, .fp8e4m3⟩
  | .local _ .vmem, ⟨1, _⟩ => ⟨S2048x1536, .fp8e4m3⟩
  | .local _ .vmem, ⟨2, _⟩ => ⟨S2048x1536, .fp8e5m2⟩
  | .local _ .vmem, ⟨3, _⟩ => ⟨S2048x1536, .fp8e5m2⟩
  | .local _ .vmem, ⟨4, _⟩ => ⟨S1536x1536, .f32⟩
  | .local _ .vmem, ⟨5, _⟩ => ⟨S1536x1536, .f32⟩
  | .local _ .smem, ⟨0, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x1536 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1536 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1536x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DwReferenceIdeal.lean ====
abbrev S8x128 : Shape := ⟨2, ![8, 128]⟩
abbrev S24576x1536 : Shape := ⟨2, ![24576, 1536]⟩
abbrev S24576x16896 : Shape := ⟨2, ![24576, 16896]⟩
abbrev S1536x16896 : Shape := ⟨2, ![1536, 16896]⟩
abbrev S1x1 : Shape := ⟨2, ![1, 1]⟩

abbrev nBuf : Space → Nat
  | .hbm => 4
  | .vmem => 3
  | .smem => 1
  | _ => 0

abbrev bufTy : (tb : Table) → Fin (tcTables nBuf tb) → BufTy
  | .hbm, ⟨0, _⟩ => ⟨S8x128, .f32⟩
  | .hbm, ⟨1, _⟩ => ⟨S24576x1536, .fp8e4m3⟩
  | .hbm, ⟨2, _⟩ => ⟨S24576x16896, .fp8e5m2⟩
  | .hbm, ⟨3, _⟩ => ⟨S1536x16896, .f32⟩
  | .local _ .vmem, ⟨0, _⟩ => ⟨S24576x1536, .fp8e4m3⟩
  | .local _ .vmem, ⟨1, _⟩ => ⟨S24576x16896, .fp8e5m2⟩
  | .local _ .vmem, ⟨2, _⟩ => ⟨S1536x16896, .f32⟩
  | .local _ .smem, ⟨0, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .smem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x16896 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x16896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== QuantX.lean ====
abbrev S8x128 : Shape := ⟨2, ![8, 128]⟩
abbrev S24576x1536 : Shape := ⟨2, ![24576, 1536]⟩
abbrev S16 : Shape := ⟨1, ![16]⟩
abbrev S1024x1536 : Shape := ⟨2, ![1024, 1536]⟩
abbrev S16x128 : Shape := ⟨2, ![16, 128]⟩
abbrev S1x1 : Shape := ⟨2, ![1, 1]⟩
abbrev S64x16x1536 : Shape := ⟨3, ![64, 16, 1536]⟩
abbrev S16x1536 : Shape := ⟨2, ![16, 1536]⟩
abbrev S1x16x128 : Shape := ⟨3, ![1, 16, 128]⟩
abbrev S1 : Shape := ⟨1, ![1]⟩
abbrev S1x1x1 : Shape := ⟨3, ![1, 1, 1]⟩
abbrev S15 : Shape := ⟨1, ![15]⟩

abbrev nBuf : Space → Nat
  | .hbm => 9
  | .vmem => 6
  | .smem => 1
  | _ => 0

abbrev bufTy : (tb : Table) → Fin (tcTables nBuf tb) → BufTy
  | .hbm, ⟨0, _⟩ => ⟨S8x128, .f32⟩
  | .hbm, ⟨1, _⟩ => ⟨S24576x1536, .bf16⟩
  | .hbm, ⟨2, _⟩ => ⟨S16, .f32⟩
  | .hbm, ⟨3, _⟩ => ⟨S24576x1536, .fp8e4m3⟩
  | .hbm, ⟨4, _⟩ => ⟨S8x128, .f32⟩
  | .hbm, ⟨5, _⟩ => ⟨S15, .f32⟩
  | .hbm, ⟨6, _⟩ => ⟨S1x1, .f32⟩
  | .hbm, ⟨7, _⟩ => ⟨S1, .f32⟩
  | .hbm, ⟨8, _⟩ => ⟨S16, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .fp8e4m3⟩
  | .local _ .vmem, ⟨3, _⟩ => ⟨S1024x1536, .fp8e4m3⟩
  | .local _ .vmem, ⟨4, _⟩ => ⟨S8x128, .f32⟩
  | .local _ .vmem, ⟨5, _⟩ => ⟨S16x128, .bf16⟩
  | .local _ .smem, ⟨0, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_scratch0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c23_i32 : BitVec 32 := 23#32
  let v48 : BitVec 1 := Scalar.cmpi .eq arg0 c23_i32
  let v49 : BitVec 32 := Scalar.extui v48
  let c0_i32_11 : BitVec 32 := 0#32
  let v50 : BitVec 1 := Scalar.cmpi .ne v49 c0_i32_11
  v50

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== QuantXReferenceIdeal.lean ====
abbrev S8x128 : Shape := ⟨2, ![8, 128]⟩
abbrev S24576x1536 : Shape := ⟨2, ![24576, 1536]⟩
abbrev S16 : Shape := ⟨1, ![16]⟩
abbrev S1x1 : Shape := ⟨2, ![1, 1]⟩
abbrev S_ : Shape := ⟨0, ![]⟩
abbrev S15 : Shape := ⟨1, ![15]⟩
abbrev S1 : Shape := ⟨1, ![1]⟩

abbrev nBuf : Space → Nat
  | .hbm => 11
  | .vmem => 2
  | .smem => 1
  | _ => 0

abbrev bufTy : (tb : Table) → Fin (tcTables nBuf tb) → BufTy
  | .hbm, ⟨0, _⟩ => ⟨S8x128, .f32⟩
  | .hbm, ⟨1, _⟩ => ⟨S24576x1536, .bf16⟩
  | .hbm, ⟨2, _⟩ => ⟨S16, .f32⟩
  | .hbm, ⟨3, _⟩ => ⟨S24576x1536, .fp8e4m3⟩
  | .hbm, ⟨4, _⟩ => ⟨S24576x1536, .bf16⟩
  | .hbm, ⟨5, _⟩ => ⟨S_, .bf16⟩
  | .hbm, ⟨6, _⟩ => ⟨S_, .bf16⟩
  | .hbm, ⟨7, _⟩ => ⟨S_, .f32⟩
  | .hbm, ⟨8, _⟩ => ⟨S15, .f32⟩
  | .hbm, ⟨9, _⟩ => ⟨S1, .f32⟩
  | .hbm, ⟨10, _⟩ => ⟨S16, .f32⟩
  | .local _ .vmem, ⟨0, _⟩ => ⟨S24576x1536, .bf16⟩
  | .local _ .vmem, ⟨1, _⟩ => ⟨S24576x1536, .fp8e4m3⟩
  | .local _ .smem, ⟨0, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .smem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== QuantW.lean ====
abbrev S8x128 : Shape := ⟨2, ![8, 128]⟩
abbrev S1536x16896 : Shape := ⟨2, ![1536, 16896]⟩
abbrev S16 : Shape := ⟨1, ![16]⟩
abbrev S1536x512 : Shape := ⟨2, ![1536, 512]⟩
abbrev S1x1 : Shape := ⟨2, ![1, 1]⟩
abbrev S192x8x512 : Shape := ⟨3, ![192, 8, 512]⟩
abbrev S8x512 : Shape := ⟨2, ![8, 512]⟩
abbrev S1x8x128 : Shape := ⟨3, ![1, 8, 128]⟩
abbrev S1 : Shape := ⟨1, ![1]⟩
abbrev S1x1x1 : Shape := ⟨3, ![1, 1, 1]⟩
abbrev S15 : Shape := ⟨1, ![15]⟩

abbrev nBuf : Space → Nat
  | .hbm => 9
  | .vmem => 6
  | .smem => 1
  | _ => 0

abbrev bufTy : (tb : Table) → Fin (tcTables nBuf tb) → BufTy
  | .hbm, ⟨0, _⟩ => ⟨S8x128, .f32⟩
  | .hbm, ⟨1, _⟩ => ⟨S1536x16896, .f32⟩
  | .hbm, ⟨2, _⟩ => ⟨S16, .f32⟩
  | .hbm, ⟨3, _⟩ => ⟨S1536x16896, .fp8e4m3⟩
  | .hbm, ⟨4, _⟩ => ⟨S8x128, .f32⟩
  | .hbm, ⟨5, _⟩ => ⟨S15, .f32⟩
  | .hbm, ⟨6, _⟩ => ⟨S1x1, .f32⟩
  | .hbm, ⟨7, _⟩ => ⟨S1, .f32⟩
  | .hbm, ⟨8, _⟩ => ⟨S16, .f32⟩
  | .local _ .vmem, ⟨0, _⟩ => ⟨S1536x512, .f32⟩
  | .local _ .vmem, ⟨1, _⟩ => ⟨S1536x512, .f32⟩
  | .local _ .vmem, ⟨2, _⟩ => ⟨S1536x512, .fp8e4m3⟩
  | .local _ .vmem, ⟨3, _⟩ => ⟨S1536x512, .fp8e4m3⟩
  | .local _ .vmem, ⟨4, _⟩ => ⟨S8x128, .f32⟩
  | .local _ .vmem, ⟨5, _⟩ => ⟨S8x128, .f32⟩
  | .local _ .smem, ⟨0, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_scratch0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v29 : BitVec 1 := Scalar.cmpi .eq arg0 c32_i32
  let v30 : BitVec 32 := Scalar.extui v29
  let c0_i32_11 : BitVec 32 := 0#32
  let v31 : BitVec 1 := Scalar.cmpi .ne v30 c0_i32_11
  v31

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1536x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== QuantWReferenceIdeal.lean ====
abbrev S8x128 : Shape := ⟨2, ![8, 128]⟩
abbrev S1536x16896 : Shape := ⟨2, ![1536, 16896]⟩
abbrev S16 : Shape := ⟨1, ![16]⟩
abbrev S1x1 : Shape := ⟨2, ![1, 1]⟩
abbrev S_ : Shape := ⟨0, ![]⟩
abbrev S15 : Shape := ⟨1, ![15]⟩
abbrev S1 : Shape := ⟨1, ![1]⟩

abbrev nBuf : Space → Nat
  | .hbm => 10
  | .vmem => 2
  | .smem => 1
  | _ => 0

abbrev bufTy : (tb : Table) → Fin (tcTables nBuf tb) → BufTy
  | .hbm, ⟨0, _⟩ => ⟨S8x128, .f32⟩
  | .hbm, ⟨1, _⟩ => ⟨S1536x16896, .f32⟩
  | .hbm, ⟨2, _⟩ => ⟨S16, .f32⟩
  | .hbm, ⟨3, _⟩ => ⟨S1536x16896, .fp8e4m3⟩
  | .hbm, ⟨4, _⟩ => ⟨S1536x16896, .f32⟩
  | .hbm, ⟨5, _⟩ => ⟨S_, .f32⟩
  | .hbm, ⟨6, _⟩ => ⟨S_, .f32⟩
  | .hbm, ⟨7, _⟩ => ⟨S15, .f32⟩
  | .hbm, ⟨8, _⟩ => ⟨S1, .f32⟩
  | .hbm, ⟨9, _⟩ => ⟨S16, .f32⟩
  | .local _ .vmem, ⟨0, _⟩ => ⟨S1536x16896, .f32⟩
  | .local _ .vmem, ⟨1, _⟩ => ⟨S1536x16896, .fp8e4m3⟩
  | .local _ .smem, ⟨0, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .smem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x16896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x16896 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Scales.lean ====
abbrev S16 : Shape := ⟨1, ![16]⟩
abbrev S1x16 : Shape := ⟨2, ![1, 16]⟩
abbrev S8x128 : Shape := ⟨2, ![8, 128]⟩
abbrev S1x1x16 : Shape := ⟨3, ![1, 1, 16]⟩
abbrev S1 : Shape := ⟨1, ![1]⟩
abbrev S1x1x1 : Shape := ⟨3, ![1, 1, 1]⟩
abbrev S1x1 : Shape := ⟨2, ![1, 1]⟩

abbrev nBuf : Space → Nat
  | .hbm => 7
  | .vmem => 4
  | .smem => 0
  | _ => 0

abbrev bufTy : (tb : Table) → Fin (tcTables nBuf tb) → BufTy
  | .hbm, ⟨0, _⟩ => ⟨S16, .f32⟩
  | .hbm, ⟨1, _⟩ => ⟨S16, .f32⟩
  | .hbm, ⟨2, _⟩ => ⟨S16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S8x128, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S8x128, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [BitOps F]

abbrev grid0 : Pipeline.Grid := .none

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ScalesReference.lean ====
abbrev S16 : Shape := ⟨1, ![16]⟩
abbrev S1x16 : Shape := ⟨2, ![1, 16]⟩
abbrev S8x128 : Shape := ⟨2, ![8, 128]⟩
abbrev S1x1x16 : Shape := ⟨3, ![1, 1, 16]⟩
abbrev S1 : Shape := ⟨1, ![1]⟩
abbrev S1x1x1 : Shape := ⟨3, ![1, 1, 1]⟩

abbrev nBuf : Space → Nat
  | .hbm => 7
  | .vmem => 4
  | .smem => 0
  | _ => 0

abbrev bufTy : (tb : Table) → Fin (tcTables nBuf tb) → BufTy
  | .hbm, ⟨0, _⟩ => ⟨S16, .f32⟩
  | .hbm, ⟨1, _⟩ => ⟨S16, .f32⟩
  | .hbm, ⟨2, _⟩ => ⟨S16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S8x128, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S8x128, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [BitOps F]

abbrev grid0 : Pipeline.Grid := .none

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.DwSpec.lean ====
/-
  The weight gradient as one formula over the extended reals. Both the kernel's call and its reference are shown to
  compute it.
-/
module

public import Idealize.ShloMosaic.Lib.Pipeline.ValueKit

@[expose] public section

noncomputable section

namespace Cert.Spec

open Idealize.ShloMosaic

/-- The scale table: row 0 holds the scale of `x`, row 1 that of `w`, row 2 that of `dy`, rows 3 to 5 their inverses. -/
abbrev Table : Type := (⟨2, ![8, 128]⟩ : Shape).Idx → EReal

/-- The weight gradient: entry `(i, j)` is the product of column `i` of the codes of `x` and column `j` of the codes of
    `dy` over all tokens, times the scale of `x` and the scale of `dy`. -/
def dw (s : Table) (x : (⟨2, ![24576, 1536]⟩ : Shape).Idx → EReal) (dy : (⟨2, ![24576, 16896]⟩ : Shape).Idx → EReal) :
    (⟨2, ![1536, 16896]⟩ : Shape).Idx → EReal := fun j =>
  (∑ k : Fin 24576, x (ix2 k (j 0)) * dy (ix2 k (j 1))) * (s (ix2 0 0) * s (ix2 2 0))

end Cert.Spec

end
-- ==== Proof.AmaxSpec.lean ====
/-
  The largest absolute value of an array over the extended reals, how a running maximum is compared with a
  bound, and the codes of an array.
-/
module

public import Idealize.ShloMosaic.Lib.Pipeline.ValueKit

@[expose] public section

noncomputable section

namespace Cert.Spec

open Idealize.ShloMosaic

/-- The absolute value on the extended reals. -/
abbrev abs (a : EReal) : EReal := max a (-a)

/-- The largest absolute value of a family. -/
def amax {ι : Type} (v : ι → EReal) : EReal := ⨆ i, abs (v i)

/-- A history of sixteen entries with its first entry dropped and a new one put at its end. -/
def rolled (hs : (⟨1, ![16]⟩ : Shape).Slices ![1] ⟨1, ![15]⟩)
    (hc : Shape.Concatenates [⟨1, ![15]⟩, ⟨1, ![1]⟩] (⟨1, ![16]⟩ : Shape) 0)
    (h : (⟨1, ![16]⟩ : Shape).Idx → EReal) (a : EReal) : (⟨1, ![16]⟩ : Shape).Idx → EReal :=
  concatenate ⟨1, ![16]⟩ 0 [⟨⟨1, ![15]⟩, extractStridedSlice ⟨1, ![15]⟩ ![1] h hs⟩, ⟨⟨1, ![1]⟩, fun _ => a⟩] hc

/-- An absolute value is not negative. -/
theorem abs_nonneg (a : EReal) : 0 ≤ abs a := by
  rcases le_total 0 a with h | h
  · exact le_max_of_le_left h
  · exact le_max_of_le_right (EReal.neg_nonneg.mpr h)

/-- The largest absolute value is at most `b` exactly when every absolute value is. -/
theorem amax_le {ι : Type} (v : ι → EReal) (b : EReal) : amax v ≤ b ↔ ∀ i, abs (v i) ≤ b := iSup_le_iff

/-- A maximum folded from the least element over some of the entries is at most `b` exactly when each of those is. -/
theorem fold_filter_le {ι : Type} (s : Finset ι) (f : ι → EReal) (b : EReal) :
    s.fold max ⊥ f ≤ b ↔ ∀ i ∈ s, f i ≤ b := by
  rw [Finset.fold_max_le]
  simp

/-- The maximum over a whole array, its shape changed first, into one number is at most `b` exactly when every entry is. -/
theorem multiReduction_all_le {s u t : Shape} [Subsingleton t.Idx] {φ : FTy} {axes : List (Fin u.rank)} (v : s.Idx → EReal)
    (hc : s.ShapeCasts u) (acc : BitVec φ.bits) (h : u.Reduces axes t) (hφ : FKind.Formats φ)
    (hacc : acc = FKind.maximumf.neutral φ hφ) (hbot : Ideal.ofBits φ acc = ⊥) (j : t.Idx) (b : EReal) :
    multiReduction (F := Ideal) (φ := φ) .maximumf axes t (shapeCast u v hc) acc h hφ hacc j ≤ b ↔ ∀ i, v i ≤ b := by
  rw [multiReduction_maximumf_eq_fold]
  change (Finset.univ.filter fun i => h.drop i = j).fold max (Ideal.ofBits φ acc) _ ≤ b ↔ _
  rw [hbot, fold_filter_le]
  refine ⟨fun H i => ?_, fun H i _ => H _⟩
  have := H ((Shape.reshapeEquiv hc).symm i) (Finset.mem_filter.mpr ⟨Finset.mem_univ _, Subsingleton.elim _ _⟩)
  simpa only [shapeCast, Equiv.apply_symm_apply] using this

/-- The host's maximum over a whole array into one number is at most `b` exactly when every entry is. -/
theorem hostReduce_all_le {s u t : Shape} [Subsingleton t.Idx] {φ : FTy} {axes : List (Fin s.rank)} (v : s.Idx → EReal)
    (init : u.Idx → EReal) (h : s.ReducesTo axes t) (hu : 0 < u.numel) (hbot : ∀ i, init i = ⊥) (j : t.Idx) (b : EReal) :
    Host.reduce (FloatOps.maximumf (F := Ideal) (φ := φ)) v init h hu j ≤ b ↔ ∀ i, v i ≤ b := by
  rw [Host.reduce_eq_fold]
  change (Finset.univ.filter fun i => h.drop i = j).fold max _ _ ≤ b ↔ _
  rw [hbot, fold_filter_le]
  exact ⟨fun H i => H i (Finset.mem_filter.mpr ⟨Finset.mem_univ _, Subsingleton.elim _ _⟩), fun H i _ => H _⟩

/-- The codes of an array over the extended reals: every entry times one number, clipped to the interval from `lo` to `hi`. -/
def codes {ι : Type} (lo hi inv : EReal) (v : ι → EReal) : ι → EReal := fun j => min hi (max lo (v j * inv))

end Cert.Spec

end
-- ==== Proof.FwdDxSpec.lean ====
/-
  The three results of the forward and input-gradient call that are products or codes, as formulas over the extended reals. Both the
  kernel's call and its reference are shown to compute them. The two products have their token axis split into groups of 8.
-/
module

public import proofs.«01_k».proof.Proof.DwSpec
public import proofs.«01_k».proof.Proof.AmaxSpec

@[expose] public section

noncomputable section

namespace Cert.Spec

open Idealize.ShloMosaic

/-- The token that row `b` of group `a` is. -/
def token (a : Fin 3072) (b : Fin 8) : Fin 24576 := ⟨a.val * 8 + b.val, by omega⟩

/-- The forward product: entry `(a, b, j)` is the product of the codes of `x` at one token and column `j` of the codes of `w`, times the
    scale of `x` and the scale of `w`. -/
def y (s : Table) (x : (⟨2, ![24576, 1536]⟩ : Shape).Idx → EReal) (w : (⟨2, ![1536, 16896]⟩ : Shape).Idx → EReal) :
    (⟨3, ![3072, 8, 16896]⟩ : Shape).Idx → EReal := fun j =>
  (∑ k : Fin 1536, x (ix2 (token (j 0) (j 1)) k) * w (ix2 k (j 2))) * (s (ix2 0 0) * s (ix2 1 0))

/-- The codes of `dy`: every entry times the inverse scale, clipped to ±57344. -/
def dyCodes (s : Table) (dy : (⟨2, ![24576, 16896]⟩ : Shape).Idx → EReal) : (⟨2, ![24576, 16896]⟩ : Shape).Idx → EReal :=
  codes (Ideal.ofBits .f32 0xC7600000#32) (Ideal.ofBits .f32 0x47600000#32) (s (ix2 5 0)) dy

/-- The input gradient: entry `(a, b, j)` is the product of the codes of `dy` at one token and row `j` of the codes of `w`, times the
    scale of `dy` and the scale of `w`. -/
def dx (s : Table) (w : (⟨2, ![1536, 16896]⟩ : Shape).Idx → EReal) (dy : (⟨2, ![24576, 16896]⟩ : Shape).Idx → EReal) :
    (⟨3, ![3072, 8, 1536]⟩ : Shape).Idx → EReal := fun j =>
  (∑ k : Fin 16896, dyCodes s dy (ix2 (token (j 0) (j 1)) k) * w (ix2 (j 2) k)) * (s (ix2 2 0) * s (ix2 1 0))

end Cert.Spec

end
-- ==== Proof.FwdDxPayloads.lean ====
/-
  What the payloads of the forward and input-gradient call compute that are products or codes: the forward block, the codes of a block of
  `dy`, and the accumulation of the input gradient.
-/
module

public import proofs.«01_k».proof.Proof.Gen.FwdDxIdeal.Run
public import Idealize.ShloMosaic.Lib.Pipeline.Value
public import Idealize.ShloMosaic.Lib.Pipeline.ValueKit
public import Idealize.ShloMosaic.Lib.Pipeline.ReadBack
public import proofs.«01_k».proof.Proof.FwdDxSpec

@[expose] public section

set_option maxRecDepth 16384

noncomputable section

namespace Cert.FwdDxIdeal.Value

open Cert.FwdDxIdeal Cert.FwdDxIdeal.Gen
open Idealize.ShloMosaic Idealize.ShloMosaic.TcCoe Idealize.SL.Sem
open Idealize.ShloMosaic.Pipeline (Dat)

/-- The row of a 512-row block that row `b` of its group `a` is. -/
def row (a : Fin 64) (b : Fin 8) : Fin 512 := ⟨a.val * 8 + b.val, by omega⟩

/-- The forward payload is a product of two blocks, times the product of two numbers, its rows in groups of 8. -/
theorem y_apply (x : S512x1536.Idx → EReal) (w : S1536x1536.Idx → EReal) (p q : EReal) (j : S64x8x1536.Idx) :
    k0_pay11 (F := Ideal) x w p q j = (∑ k : Fin 1536, x (ix2 (row (j 0) (j 1)) k) * w (ix2 k (j 2))) * (p * q) := by
  pointwise [k0_pay11, row]

/-- The code payload multiplies by one number and clips. -/
theorem codes_apply (v : S512x1536.Idx → EReal) (s : EReal) (j : S512x1536.Idx) :
    k0_pay6 (F := Ideal) v s j
      = Cert.Spec.codes (Ideal.ofBits .f32 0xC7600000#32) (Ideal.ofBits .f32 0x47600000#32) s v j := by
  pointwise [k0_pay6, Cert.Spec.codes]

/-- The block that the input gradient is accumulated from is zero everywhere. -/
theorem zero_apply (j : S512x1536.Idx) : k0_pay4 (F := Ideal) j = 0 := by pointwise [k0_pay4]

/-- The lanes that the running maximum starts from are zero. -/
theorem zeroLane_apply (j : S16x128.Idx) : k0_pay5 (F := Ideal) j = 0 := by pointwise [k0_pay5]

/-- The accumulating payload adds the product of a block of codes of `dy` and a block of codes of `w`, over the columns of both. -/
theorem add_apply (a : S512x1536.Idx → EReal) (d : S512x1536.Idx → EReal) (w : S1536x1536.Idx → EReal) (j : S512x1536.Idx) :
    k0_pay1 (F := Ideal) (k0_pay12 (F := Ideal) a d w) j = a j + ∑ k : Fin 1536, d (ix2 (j 0) k) * w (ix2 (j 1) k) := by
  pointwise [k0_pay1, k0_pay12]

/-- The closing payload multiplies by the product of two numbers, its rows in groups of 8. -/
theorem scale_apply (a : S512x1536.Idx → EReal) (p q : EReal) (j : S64x8x1536.Idx) :
    k0_pay2 (F := Ideal) a p q j = a (ix2 (row (j 0) (j 1)) (j 2)) * (p * q) := by
  pointwise [k0_pay2, row]

end Cert.FwdDxIdeal.Value

end
-- ==== Proof.FwdDxLanes.lean ====
/-
  What the payloads of the forward and input-gradient call compute in the 16 by 128 lanes into which the absolute values of a block of
  `dy` are taken by maximum. Each maximum is stated by its upper bounds.
-/
module

public import proofs.«01_k».proof.Proof.Gen.FwdDxIdeal.Run
public import Idealize.ShloMosaic.Lib.Pipeline.Value
public import Idealize.ShloMosaic.Lib.Pipeline.ValueKit
public import Idealize.ShloMosaic.Lib.Pipeline.ReadBack
public import proofs.«01_k».proof.Proof.FwdDxSpec

@[expose] public section

set_option maxRecDepth 16384

noncomputable section

namespace Cert.FwdDxIdeal.Value

open Cert.FwdDxIdeal Cert.FwdDxIdeal.Gen
open Idealize.ShloMosaic Idealize.ShloMosaic.TcCoe Idealize.SL.Sem
open Idealize.ShloMosaic.Pipeline (Dat)

/-- The maximum over the rows of one block with one residue modulo 16. -/
def rowMax (v : S512x1536.Idx → EReal) : S16x1536.Idx → EReal :=
  multiReduction (F := Ideal) (φ := .bf16) .maximumf [0] S16x1536 (shapeCast S32x16x1536 (absf (F := Ideal) (φ := .bf16) v) shapeCasts_S512x1536_S32x16x1536) 0xFF80#16 reduces_S32x16x1536_S16x1536 (.inr rfl) rfl

/-- `rowMax` is at most `b` exactly when every absolute value it is taken over is. -/
theorem rowMax_le (v : S512x1536.Idx → EReal) (i : S16x1536.Idx) (b : EReal) :
    rowMax v i ≤ b ↔ ∀ k : S512x1536.Idx, (k 0).val % 16 = (i 0).val → (k 1).val = (i 1).val → Cert.Spec.abs (v k) ≤ b := by
  pointwise [rowMax]
  have hbot : Ideal.ofBits FTy.bf16 65408#16 = ⊥ := by simp [Ideal.ofBits, Ideal.ieee]
  rw [hbot, Cert.Spec.fold_filter_le]
  have hi := (i 0).isLt
  refine ⟨fun H k h0 h1 => ?_, fun H r _ => H _ ?_ rfl⟩
  · have := H ⟨(k 0).val / 16, by have := (k 0).isLt; simp at this; omega⟩ (Finset.mem_univ _)
    refine (le_of_eq (congrArg (fun q => Cert.Spec.abs (v q)) ?_)).trans this
    ext d
    match d with
    | 0 => show (k 0).val = _; simp; omega
    | 1 => exact h1
  · show (r.val * 16 + (i 0).val) % 16 = _
    simp at hi
    omega

/-- A lane of the payload that takes a block into the running maximum `p` is at most `b` exactly when that lane of `p` and every absolute
    value of the block in that lane are. -/
theorem lane_le (v : S512x1536.Idx → EReal) (p : S16x128.Idx → EReal) (j : S16x128.Idx) (b : EReal) :
    k0_pay10 (F := Ideal) p (k0_pay7 (F := Ideal) v) (k0_pay8 (F := Ideal) v) (k0_pay9 (F := Ideal) v) j ≤ b ↔ p j ≤ b
      ∧ ∀ k : S512x1536.Idx, (k 0).val % 16 = (j 0).val → (k 1).val % 128 = (j 1).val → Cert.Spec.abs (v k) ≤ b := by
  have e : k0_pay10 (F := Ideal) p (k0_pay7 (F := Ideal) v) (k0_pay8 (F := Ideal) v) (k0_pay9 (F := Ideal) v) j ≤ b
      ↔ p j ≤ b ∧ ∀ i : S16x1536.Idx, (i 0).val = (j 0).val → (i 1).val % 128 = (j 1).val → rowMax v i ≤ b := by
    have hr : k0_pay7 (F := Ideal) v = rowMax v := rfl
    unfold k0_pay10 k0_pay8 k0_pay9
    dsimp only
    rw [hr]
    generalize rowMax v = r
    pointwise
    simp only [max_le_iff]
    refine and_congr_right fun _ => ?_
    have hj := (j 1).isLt
    simp at hj
    constructor
    · rintro ⟨⟨⟨⟨⟨⟨⟨⟨⟨⟨⟨h0, h1⟩, h2⟩, h3⟩, h4⟩, h5⟩, h6⟩, h7⟩, h8⟩, h9⟩, h10⟩, h11⟩ i e0 e1
      have key : ∀ (n : ℕ) (hn : n + (j 1).val < 1536), (i 1).val = n + (j 1).val → r (ix2 (j 0) ⟨n + (j 1).val, hn⟩) ≤ b → r i ≤ b := by
        intro n hn hi hr
        refine (le_of_eq (congrArg r ?_)).trans hr
        ext d
        match d with
        | 0 => exact e0
        | 1 => exact hi
      have hi := (i 1).isLt
      simp at hi
      obtain ⟨q, hq⟩ : ∃ q, q = (i 1).val / 128 := ⟨_, rfl⟩
      have hq' : q < 12 := by omega
      interval_cases q
      · exact key 0 (by omega) (by omega) (by simpa using h0)
      · exact key 128 (by omega) (by omega) h1
      · exact key 256 (by omega) (by omega) h2
      · exact key 384 (by omega) (by omega) h3
      · exact key 512 (by omega) (by omega) h4
      · exact key 640 (by omega) (by omega) h5
      · exact key 768 (by omega) (by omega) h6
      · exact key 896 (by omega) (by omega) h7
      · exact key 1024 (by omega) (by omega) h8
      · exact key 1152 (by omega) (by omega) h9
      · exact key 1280 (by omega) (by omega) h10
      · exact key 1408 (by omega) (by omega) h11
    · intro H
      refine ⟨⟨⟨⟨⟨⟨⟨⟨⟨⟨⟨?_, ?_⟩, ?_⟩, ?_⟩, ?_⟩, ?_⟩, ?_⟩, ?_⟩, ?_⟩, ?_⟩, ?_⟩, ?_⟩ <;>
        exact H _ rfl (by show (_ : ℕ) % 128 = _; simp; try omega)
  rw [e]
  refine and_congr_right fun _ => ⟨fun H k h0 h1 => ?_, fun H i h0 h1 => (rowMax_le v i b).mpr fun k k0 k1 => H k (by omega) (by omega)⟩
  exact (rowMax_le v (ix2 (j 0) (k 1)) b).mp (H _ rfl h1) k h0 rfl

/-- The closing payload is at most `b` exactly when every lane is. -/
theorem all_le (v : S16x128.Idx → EReal) (j : S8x128.Idx) (b : EReal) :
    k0_pay3 (F := Ideal) v j ≤ b ↔ ∀ i, v i ≤ b := by
  haveI : Subsingleton S1.Idx := ⟨fun a b => funext fun d => match d with | 0 => Subsingleton.elim (α := Fin 1) _ _⟩
  have H := fun k => Cert.Spec.multiReduction_all_le (t := S1) (φ := .f32) (axes := [1, 2]) v shapeCasts_S16x128_S1x16x128 0xFF800000#32
    reduces_S1x16x128_S1 (.inl rfl) rfl (by simp [Ideal.ofBits, Ideal.ieee]) k b
  have e : extf (F := Ideal) .f32 (show FVec Ideal S16x128 .bf16 from v) bitsLt_bf16_f32 = v := rfl
  unfold k0_pay3
  simp only [e, broadcast, extractAt, shapeCast.eq_1 S1x1x1]
  exact H _

end Cert.FwdDxIdeal.Value

end
-- ==== Proof.FwdDxKernel.lean ====
/-
  What the forward and input-gradient call computes. Point `t` of its grid is column block `t % 11` of token block `t / 11`. Every point
  writes a block of the forward product and the codes of a block of `dy`; it adds the product of these codes with a block of the codes
  of `w` to an accumulator, which the last column block scales into the input gradient; and it takes the absolute values of the block of
  `dy` into a running maximum, whose largest lane the last point writes.
-/
module

public import proofs.«01_k».proof.Proof.Gen.FwdDxIdeal.Run
public import Idealize.ShloMosaic.Lib.Pipeline.Value
public import Idealize.ShloMosaic.Lib.Pipeline.ValueKit
public import Idealize.ShloMosaic.Lib.Pipeline.ReadBack
public import proofs.«01_k».proof.Proof.FwdDxPayloads
public import proofs.«01_k».proof.Proof.FwdDxLanes

@[expose] public section

set_option maxRecDepth 16384

noncomputable section

namespace Cert.FwdDxIdeal.Value

open Cert.FwdDxIdeal Cert.FwdDxIdeal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at each grid point: point `t` is column block `t % 11` of token block `t / 11`. -/
theorem idx : ∀ t : Fin cfg0.N, win0_0.index t = ![0, 0] ∧ win0_1.index t = ![t.val / 11, 0] ∧ win0_2.index t = ![0, 0]
    ∧ win0_3.index t = ![t.val / 11, t.val % 11] ∧ win0_4.index t = ![t.val / 11, 0, t.val % 11]
    ∧ win0_5.index t = ![t.val / 11, 0, 0] ∧ win0_6.index t = ![t.val / 11, t.val % 11] ∧ win0_7.index t = ![0, 0] :=
  (by decide +kernel : ∀ t : Fin grid0.N, _)

/-- Where the block of codes of `w` that a grid point reads begins: at its column block. -/
theorem off : ∀ t : Fin cfg0.N, k0_off1 (grid0.coords t) = ![0, 1536 * (t.val % 11)] :=
  (by decide +kernel : ∀ t : Fin grid0.N, _)

/-- The scale table at grid point `t`. -/
abbrev sBlk (c : Dev nD) (t : Fin cfg0.N) : S8x128.Idx → EReal := iblk m c 0 t
/-- The block of codes of `x` at grid point `t`. -/
abbrev xBlk (c : Dev nD) (t : Fin cfg0.N) : S512x1536.Idx → EReal := iblk m c 1 t
/-- The block of codes of `w` at grid point `t`. -/
abbrev wBlk (c : Dev nD) (t : Fin cfg0.N) : S1536x1536.Idx → EReal := fun j =>
  (iblk m c 2 t : S1536x16896.Idx → EReal) (ix2 (j 0) ⟨1536 * (t.val % 11) + (j 1).val, by have := (j 1).isLt; simp at this; omega⟩)
/-- The block of `dy` at grid point `t`. -/
abbrev dyBlk (c : Dev nD) (t : Fin cfg0.N) : S512x1536.Idx → EReal := iblk m c 3 t

/-- A load of the codes of `w` at the point's column block is `wBlk`. -/
theorem ld_w (c : Dev nD) (t : Fin cfg0.N) (inb) :
    View.ld (iblk m c 2 t : S1536x16896.Idx → EReal) (Rect.unit (s := S1536x16896) (k0_off1 (grid0.coords t)) ![1536, 1536] inb) = wBlk m c t := by
  funext j
  refine View.ld_unit_apply_of _ _ _ _ _ _ fun a => ?_
  refine Eq.trans ?_ (congrArg (· + (j a).val) (congrFun (off t) a).symm)
  match a with
  | 0 => exact (Nat.zero_add _).symm
  | 1 => rfl

/-- The codes of the block of `dy` at grid point `t`. -/
abbrev dBlk (c : Dev nD) (t : Fin cfg0.N) : S512x1536.Idx → EReal :=
  Cert.Spec.codes (Ideal.ofBits .f32 0xC7600000#32) (Ideal.ofBits .f32 0x47600000#32) (sBlk m c t (ix2 5 0)) (dyBlk m c t)

/-- What one point adds to the accumulator: row `j 0` of the codes of `dy` with row `j 1` of the codes of `w`. -/
def part (c : Dev nD) (t : Fin cfg0.N) (j : S512x1536.Idx) : EReal :=
  ∑ k : Fin 1536, dBlk m c t (ix2 (j 0) k) * wBlk m c t (ix2 (j 1) k)

/-- The code payload as a function. -/
theorem codes_eq (v : S512x1536.Idx → EReal) (s : EReal) : k0_pay6 (F := Ideal) v s
    = Cert.Spec.codes (Ideal.ofBits .f32 0xC7600000#32) (Ideal.ofBits .f32 0x47600000#32) s v :=
  funext fun j => codes_apply v s j

/-- A load of one number of the scale table. -/
theorem ld_s (c : Dev nD) (t : Fin cfg0.N) (r : Fin 8) (inb) (h) :
    View.ld (iblk m c 0 t : S8x128.Idx → EReal) (Rect.unit (s := S8x128) ![r.val, 0] ![1, 1] inb) (Shape.Idx.first h) = sBlk m c t (ix2 r 0) := by
  refine View.ld_unit_apply_of _ _ _ _ _ _ fun a => ?_
  match a with
  | 0 => rfl
  | 1 => rfl

/-- At every point the forward block written is the product of the point's blocks. -/
theorem y_at (c : Dev nD) (t : Fin cfg0.N) (j : S64x8x1536.Idx) :
    (outsAt0 m c t.val t.isLt).1 j
      = (∑ k : Fin 1536, xBlk m c t (ix2 (row (j 0) (j 1)) k) * wBlk m c t (ix2 k (j 2)))
        * (sBlk m c t (ix2 0 0) * sBlk m c t (ix2 1 0)) := by
  by_cases h0 : t.val % 11 = 0
  · by_cases h1 : t.val % 528 = 0
    · rw [outsAt0_A m c t h0 h1 (by omega) (by omega)]
      frame_out
      rw [y_apply, ld_w]
      exact congrArg _ (congrArg₂ (· * ·) (ld_s m c t 0 _ _) (ld_s m c t 1 _ _))
    · rw [outsAt0_D m c t h0 h1 (by omega) (by omega)]
      frame_out
      rw [y_apply, ld_w]
      exact congrArg _ (congrArg₂ (· * ·) (ld_s m c t 0 _ _) (ld_s m c t 1 _ _))
  · by_cases h2 : t.val % 11 = 10
    · by_cases h3 : t.val % 528 = 527
      · rw [outsAt0_E m c t h0 (by omega) h2 h3]
        frame_out
        rw [y_apply, ld_w]
        exact congrArg _ (congrArg₂ (· * ·) (ld_s m c t 0 _ _) (ld_s m c t 1 _ _))
      · rw [outsAt0_C m c t h0 (by omega) h2 h3]
        frame_out
        rw [y_apply, ld_w]
        exact congrArg _ (congrArg₂ (· * ·) (ld_s m c t 0 _ _) (ld_s m c t 1 _ _))
    · rw [outsAt0_B m c t h0 (by omega) h2 (by omega)]
      frame_out
      rw [y_apply, ld_w]
      exact congrArg _ (congrArg₂ (· * ·) (ld_s m c t 0 _ _) (ld_s m c t 1 _ _))

/-- At every point the codes written are those of the point's block of `dy`. -/
theorem codes_at (c : Dev nD) (t : Fin cfg0.N) (j : S512x1536.Idx) : (outsAt0 m c t.val t.isLt).2.2.1 j = dBlk m c t j := by
  by_cases h0 : t.val % 11 = 0
  · by_cases h1 : t.val % 528 = 0
    · rw [outsAt0_A m c t h0 h1 (by omega) (by omega)]
      frame_out
      rw [codes_apply]
      exact congrArg (fun s => Cert.Spec.codes _ _ s _ j) (ld_s m c t 5 _ _)
    · rw [outsAt0_D m c t h0 h1 (by omega) (by omega)]
      frame_out
      rw [codes_apply]
      exact congrArg (fun s => Cert.Spec.codes _ _ s _ j) (ld_s m c t 5 _ _)
  · by_cases h2 : t.val % 11 = 10
    · by_cases h3 : t.val % 528 = 527
      · rw [outsAt0_E m c t h0 (by omega) h2 h3]
        frame_out
        rw [codes_apply]
        exact congrArg (fun s => Cert.Spec.codes _ _ s _ j) (ld_s m c t 5 _ _)
      · rw [outsAt0_C m c t h0 (by omega) h2 h3]
        frame_out
        rw [codes_apply]
        exact congrArg (fun s => Cert.Spec.codes _ _ s _ j) (ld_s m c t 5 _ _)
    · rw [outsAt0_B m c t h0 (by omega) h2 (by omega)]
      frame_out
      rw [codes_apply]
      exact congrArg (fun s => Cert.Spec.codes _ _ s _ j) (ld_s m c t 5 _ _)

/-- At the first column block the accumulator is left at that point's product. -/
theorem acc_first (c : Dev nD) (t : Fin cfg0.N) (h0 : t.val % 11 = 0) (j : S512x1536.Idx) :
    (outsAt0 m c t.val t.isLt).2.2.2.2.1 j = 0 + part m c t j := by
  by_cases h1 : t.val % 528 = 0
  · rw [outsAt0_A m c t h0 h1 (by omega) (by omega)]
    frame_out
    rw [add_apply, zero_apply, ld_w, codes_eq]
    exact congrArg (fun s => 0 + ∑ k : Fin 1536, Cert.Spec.codes _ _ s (dyBlk m c t) (ix2 (j 0) k) * wBlk m c t (ix2 (j 1) k)) (ld_s m c t 5 _ _)
  · rw [outsAt0_D m c t h0 h1 (by omega) (by omega)]
    frame_out
    rw [add_apply, zero_apply, ld_w, codes_eq]
    exact congrArg (fun s => 0 + ∑ k : Fin 1536, Cert.Spec.codes _ _ s (dyBlk m c t) (ix2 (j 0) k) * wBlk m c t (ix2 (j 1) k)) (ld_s m c t 5 _ _)

/-- At every later column block the accumulator gains that point's product. -/
theorem acc_next (c : Dev nD) (t : Fin cfg0.N) (h0 : ¬t.val % 11 = 0) (j : S512x1536.Idx) :
    (outsAt0 m c t.val t.isLt).2.2.2.2.1 j
      = (outsAt0 m c (t.val - 1) (Nat.lt_of_le_of_lt (Nat.sub_le _ _) t.isLt)).2.2.2.2.1 j + part m c t j := by
  by_cases h2 : t.val % 11 = 10
  · by_cases h3 : t.val % 528 = 527
    · rw [outsAt0_E m c t h0 (by omega) h2 h3]
      frame_out
      simp only [read_unread_whole]
      rw [add_apply, ld_w, codes_eq]
      exact congrArg (fun s => _ + ∑ k : Fin 1536, Cert.Spec.codes _ _ s (dyBlk m c t) (ix2 (j 0) k) * wBlk m c t (ix2 (j 1) k)) (ld_s m c t 5 _ _)
    · rw [outsAt0_C m c t h0 (by omega) h2 h3]
      frame_out
      simp only [read_unread_whole]
      rw [add_apply, ld_w, codes_eq]
      exact congrArg (fun s => _ + ∑ k : Fin 1536, Cert.Spec.codes _ _ s (dyBlk m c t) (ix2 (j 0) k) * wBlk m c t (ix2 (j 1) k)) (ld_s m c t 5 _ _)
  · rw [outsAt0_B m c t h0 (by omega) h2 (by omega)]
    frame_out
    simp only [read_unread_whole]
    rw [add_apply, ld_w, codes_eq]
    exact congrArg (fun s => _ + ∑ k : Fin 1536, Cert.Spec.codes _ _ s (dyBlk m c t) (ix2 (j 0) k) * wBlk m c t (ix2 (j 1) k)) (ld_s m c t 5 _ _)

/-- At the last column block the input-gradient block written is the accumulator times the two scales. -/
theorem dx_at (c : Dev nD) (t : Fin cfg0.N) (h2 : t.val % 11 = 10) (j : S64x8x1536.Idx) :
    (outsAt0 m c t.val t.isLt).2.1 j
      = (outsAt0 m c t.val t.isLt).2.2.2.2.1 (ix2 (row (j 0) (j 1)) (j 2)) * (sBlk m c t (ix2 2 0) * sBlk m c t (ix2 1 0)) := by
  by_cases h3 : t.val % 528 = 527
  · rw [outsAt0_E m c t (by omega) (by omega) h2 h3]
    frame_out
    rw [scale_apply]
    exact congrArg _ (congrArg₂ (· * ·) (ld_s m c t 2 _ _) (ld_s m c t 1 _ _))
  · rw [outsAt0_C m c t (by omega) (by omega) h2 h3]
    frame_out
    rw [scale_apply]
    exact congrArg _ (congrArg₂ (· * ·) (ld_s m c t 2 _ _) (ld_s m c t 1 _ _))

/-- What one point does to the running maximum `p`. -/
abbrev step (c : Dev nD) (t : Fin cfg0.N) (p : S16x128.Idx → EReal) : S16x128.Idx → EReal :=
  k0_pay10 (F := Ideal) p (k0_pay7 (F := Ideal) (dyBlk m c t)) (k0_pay8 (F := Ideal) (dyBlk m c t)) (k0_pay9 (F := Ideal) (dyBlk m c t))

/-- The first point takes its block into zero lanes. -/
theorem run_first (c : Dev nD) (t : Fin cfg0.N) (h1 : t.val % 528 = 0) (j : S16x128.Idx) :
    (outsAt0 m c t.val t.isLt).2.2.2.2.2 j = step m c t (k0_pay5 (F := Ideal)) j := by
  rw [outsAt0_A m c t (by omega) h1 (by omega) (by omega)]
  frame_out

/-- Every later point takes its block into the lanes that the point before it left. -/
theorem run_next (c : Dev nD) (t : Fin cfg0.N) (h1 : ¬t.val % 528 = 0) (j : S16x128.Idx) :
    (outsAt0 m c t.val t.isLt).2.2.2.2.2 j
      = step m c t (outsAt0 m c (t.val - 1) (Nat.lt_of_le_of_lt (Nat.sub_le _ _) t.isLt)).2.2.2.2.2 j := by
  by_cases h0 : t.val % 11 = 0
  · rw [outsAt0_D m c t h0 h1 (by omega) (by omega)]
    frame_out
    simp only [read_unread_whole]
  · by_cases h2 : t.val % 11 = 10
    · by_cases h3 : t.val % 528 = 527
      · rw [outsAt0_E m c t h0 (by omega) h2 h3]
        frame_out
        simp only [read_unread_whole]
      · rw [outsAt0_C m c t h0 (by omega) h2 h3]
        frame_out
        simp only [read_unread_whole]
    · rw [outsAt0_B m c t h0 (by omega) h2 (by omega)]
      frame_out
      simp only [read_unread_whole]

/-- The last point writes the largest lane of the running maximum. -/
theorem amax_last (c : Dev nD) (t : Fin cfg0.N) (h3 : t.val % 528 = 527) (j : S8x128.Idx) :
    (outsAt0 m c t.val t.isLt).2.2.2.1 j = k0_pay3 (F := Ideal) (outsAt0 m c t.val t.isLt).2.2.2.2.2 j := by
  rw [outsAt0_E m c t (by omega) (by omega) (by omega) h3]
  frame_out

end Cert.FwdDxIdeal.Value

end
-- ==== Proof.FwdDxArrays.lean ====
/-
  What the result arrays of the forward and input-gradient call hold after its run: the forward product, the input gradient, the codes
  of `dy`, and the largest absolute value of `dy`.
-/
module

public import proofs.«01_k».proof.Proof.Gen.FwdDxIdeal.Run
public import Idealize.ShloMosaic.Lib.Pipeline.Value
public import Idealize.ShloMosaic.Lib.Pipeline.ValueKit
public import Idealize.ShloMosaic.Lib.Pipeline.ReadBack
public import proofs.«01_k».proof.Proof.FwdDxKernel

@[expose] public section

set_option maxRecDepth 16384

noncomputable section

namespace Cert.FwdDxIdeal.Value

open Cert.FwdDxIdeal Cert.FwdDxIdeal.Gen
open Idealize.ShloMosaic Idealize.ShloMosaic.TcCoe Idealize.SL.Sem
open Idealize.ShloMosaic.Pipeline (Dat)

variable (m : (ℓ : Loc nD τ sig) → Buf (Elt Ideal) ℓ)

/-- The scale table at a point is the call's scale table. -/
theorem s_apply (c : Dev nD) (t : Fin cfg0.N) (k : S8x128.Idx) : sBlk m c t k = (m ((c : Thread nD τ).loc main_arg0) : S8x128.Idx → EReal) k := by
  blk_point [iblk, V, idx t]

/-- The block of codes of `x` at a point is the point's token block. -/
theorem x_apply (c : Dev nD) (t : Fin cfg0.N) (k : S512x1536.Idx) : xBlk m c t k
    = (m ((c : Thread nD τ).loc main_arg1) : S24576x1536.Idx → EReal) (ix2 ⟨t.val / 11 * 512 + (k 0).val, by have := lt_of_lt_of_eq t.isLt (show cfg0.N = 528 from N_0); have := (k 0).isLt; simp at this; omega⟩ (k 1)) := by
  blk_point [iblk, V, idx t]

/-- The block of codes of `w` at a point is the point's column block. -/
theorem w_apply (c : Dev nD) (t : Fin cfg0.N) (k : S1536x1536.Idx) : wBlk m c t k
    = (m ((c : Thread nD τ).loc main_arg2) : S1536x16896.Idx → EReal) (ix2 (k 0) ⟨t.val % 11 * 1536 + (k 1).val, by have := (k 1).isLt; simp at this; omega⟩) := by
  unfold wBlk
  blk_point [iblk, V, idx t]

/-- The block of `dy` at a point is the point's column block of its token block. -/
theorem dy_apply (c : Dev nD) (t : Fin cfg0.N) (k : S512x1536.Idx) : dyBlk m c t k
    = (m ((c : Thread nD τ).loc main_arg3) : S24576x16896.Idx → EReal) (ix2 ⟨t.val / 11 * 512 + (k 0).val, by have := lt_of_lt_of_eq t.isLt (show cfg0.N = 528 from N_0); have := (k 0).isLt; simp at this; omega⟩ ⟨t.val % 11 * 1536 + (k 1).val, by have := (k 1).isLt; simp at this; omega⟩) := by
  blk_point [iblk, V, idx t]

/-- So its codes are that block of the codes of `dy`. -/
theorem d_apply (c : Dev nD) (t : Fin cfg0.N) (k : S512x1536.Idx) : dBlk m c t k
    = Cert.Spec.dyCodes (m ((c : Thread nD τ).loc main_arg0)) (m ((c : Thread nD τ).loc main_arg3))
        (ix2 ⟨t.val / 11 * 512 + (k 0).val, by have := lt_of_lt_of_eq t.isLt (show cfg0.N = 528 from N_0); have := (k 0).isLt; simp at this; omega⟩ ⟨t.val % 11 * 1536 + (k 1).val, by have := (k 1).isLt; simp at this; omega⟩) := by
  unfold dBlk Cert.Spec.dyCodes Cert.Spec.codes
  rw [s_apply, dy_apply]

/-- Where an entry of the forward block at point `t` lies in the array. -/
theorem emb_y (t : Fin cfg0.N) (y : S64x8x1536.Idx) :
    ((win0_4.blk t).view.emb y 0 : ℕ) = t.val / 11 * 64 + (y 0).val ∧ ((win0_4.blk t).view.emb y 1 : ℕ) = (y 1).val
      ∧ ((win0_4.blk t).view.emb y 2 : ℕ) = t.val % 11 * 1536 + (y 2).val := by
  refine ⟨?_, ?_, ?_⟩ <;> blk_point [idx t]

/-- Where an entry of the input-gradient block at point `t` lies in the array. -/
theorem emb_dx (t : Fin cfg0.N) (y : S64x8x1536.Idx) :
    ((win0_5.blk t).view.emb y 0 : ℕ) = t.val / 11 * 64 + (y 0).val ∧ ((win0_5.blk t).view.emb y 1 : ℕ) = (y 1).val
      ∧ ((win0_5.blk t).view.emb y 2 : ℕ) = (y 2).val := by
  refine ⟨?_, ?_, ?_⟩ <;> blk_point [idx t]

/-- Where an entry of the block of codes at point `t` lies in the array. -/
theorem emb_codes (t : Fin cfg0.N) (y : S512x1536.Idx) :
    ((win0_6.blk t).view.emb y 0 : ℕ) = t.val / 11 * 512 + (y 0).val
      ∧ ((win0_6.blk t).view.emb y 1 : ℕ) = t.val % 11 * 1536 + (y 1).val := by
  refine ⟨?_, ?_⟩ <;> blk_point [idx t]

/-- The accumulator after the last column block is the sum of the eleven column blocks' products. -/
theorem acc_last (c : Dev nD) (t : Fin cfg0.N) (h : t.val % 11 = 10) (j : S512x1536.Idx) :
    (outsAt0 m c t.val t.isLt).2.2.2.2.1 j
      = 0 + ∑ s : Fin 11, part m c ⟨11 * (t.val / 11) + s.val, Pipeline.run_point_lt_of_flush t h s⟩ j :=
  Pipeline.eq_sum_fin_of_reset_step_apply_of_flush (fun n h => (outsAt0 m c n h).2.2.2.2.1) 11 (fun _ => 0) (part m c)
    (fun t h0 j => acc_first m c t h0 j) (fun t h0 j => acc_next m c t h0 j) t h j

/-- The forward array after the run is the forward product of the call's arguments. -/
theorem final_y (c : Dev nD) : (dats m 0 c).arrAt 4 cfg0.N
    = Cert.Spec.y (m ((c : Thread nD τ).loc main_arg0)) (m ((c : Thread nD τ).loc main_arg1))
        (m ((c : Thread nD τ).loc main_arg2)) := by
  refine (dats m 0 c).arrAt_eq_of_covers 4 _ (by decide +kernel) fun t hf y => ?_
  blk_simp
  rw [after0_4, y_at]
  obtain ⟨e0, e1, e2⟩ := emb_y t y
  refine congrArg₂ (· * ·) (Finset.sum_congr rfl fun k _ => ?_) (congrArg₂ (· * ·) (s_apply m c t _) (s_apply m c t _))
  rw [x_apply, w_apply]
  refine congrArg₂ (· * ·) (congrArg (m ((c : Thread nD τ).loc main_arg1)) (congrArg (fun r => ix2 r k) (Fin.ext ?_)))
    (congrArg (m ((c : Thread nD τ).loc main_arg2)) (congrArg (fun r => ix2 k r) (Fin.ext ?_)))
  · show t.val / 11 * 512 + ((y 0).val * 8 + (y 1).val) = ((win0_4.blk t).view.emb y 0 : ℕ) * 8 + ((win0_4.blk t).view.emb y 1 : ℕ)
    omega
  · show t.val % 11 * 1536 + (y 2).val = ((win0_4.blk t).view.emb y 2 : ℕ)
    omega

/-- The array of codes after the run is the codes of `dy`. -/
theorem final_codes (c : Dev nD) : (dats m 0 c).arrAt 6 cfg0.N
    = Cert.Spec.dyCodes (m ((c : Thread nD τ).loc main_arg0)) (m ((c : Thread nD τ).loc main_arg3)) := by
  refine (dats m 0 c).arrAt_eq_of_covers 6 _ (by decide +kernel) fun t hf y => ?_
  blk_simp
  rw [after0_6, codes_at, d_apply]
  obtain ⟨e0, e1⟩ := emb_codes t y
  refine congrArg (Cert.Spec.dyCodes _ _) ?_
  ext d
  match d with
  | 0 =>
    show t.val / 11 * 512 + (y 0).val = ((win0_6.blk t).view.emb y 0 : ℕ)
    omega
  | 1 =>
    show t.val % 11 * 1536 + (y 1).val = ((win0_6.blk t).view.emb y 1 : ℕ)
    omega

/-- What one point adds to the accumulator, from the call's arguments. -/
theorem part_apply (c : Dev nD) (t : Fin cfg0.N) (r : Fin 512) (q : Fin 1536) : part m c t (ix2 r q)
    = ∑ k : Fin 1536, Cert.Spec.dyCodes (m ((c : Thread nD τ).loc main_arg0)) (m ((c : Thread nD τ).loc main_arg3))
          (ix2 ⟨t.val / 11 * 512 + r.val, by have := lt_of_lt_of_eq t.isLt (show cfg0.N = 528 from N_0); omega⟩
            ⟨t.val % 11 * 1536 + k.val, by omega⟩)
        * (m ((c : Thread nD τ).loc main_arg2) : S1536x16896.Idx → EReal) (ix2 q ⟨t.val % 11 * 1536 + k.val, by omega⟩) := by
  unfold part
  refine Finset.sum_congr rfl fun k _ => ?_
  rw [d_apply, w_apply]
  rfl

/-- The input-gradient array after the run is the input gradient of the call's arguments. -/
theorem final_dx (c : Dev nD) : (dats m 0 c).arrAt 5 cfg0.N
    = Cert.Spec.dx (m ((c : Thread nD τ).loc main_arg0)) (m ((c : Thread nD τ).loc main_arg2))
        (m ((c : Thread nD τ).loc main_arg3)) := by
  refine (dats m 0 c).arrAt_eq_of_covers 5 _ (by decide +kernel) fun t hf y => ?_
  have hl : t.val % 11 = 10 := (flush0_5 t).mp hf
  blk_simp
  rw [after0_5, dx_at m c t hl, acc_last m c t hl, zero_add]
  obtain ⟨e0, e1, e2⟩ := emb_dx t y
  refine congrArg₂ (· * ·) ((Finset.sum_congr rfl fun s _ => part_apply m c _ _ _).trans ?_)
    (congrArg₂ (· * ·) (s_apply m c t _) (s_apply m c t _))
  refine Fin.sum_mul_add_congr fun s k hk => ?_
  refine congrArg₂ (· * ·) (congrArg (Cert.Spec.dyCodes _ _) (congrArg₂ ix2 (Fin.ext ?_) (Fin.ext ?_)))
    (congrArg (m ((c : Thread nD τ).loc main_arg2)) (congrArg₂ ix2 (Fin.ext ?_) (Fin.ext ?_)))
  · show (11 * (t.val / 11) + s.val) / 11 * 512 + ((y 0).val * 8 + (y 1).val)
      = ((win0_5.blk t).view.emb y 0 : ℕ) * 8 + ((win0_5.blk t).view.emb y 1 : ℕ)
    omega
  · show (11 * (t.val / 11) + s.val) % 11 * 1536 + k.val = s.val * 1536 + k.val
    omega
  · show (y 2).val = ((win0_5.blk t).view.emb y 2 : ℕ)
    omega
  · show (11 * (t.val / 11) + s.val) % 11 * 1536 + k.val = s.val * 1536 + k.val
    omega

/-- The absolute values of block `t` in lane `j` are at most `b`. -/
def LaneLe (c : Dev nD) (t : Fin cfg0.N) (j : S16x128.Idx) (b : EReal) : Prop :=
  ∀ k : S512x1536.Idx, (k 0).val % 16 = (j 0).val → (k 1).val % 128 = (j 1).val → Cert.Spec.abs (dyBlk m c t k) ≤ b

/-- After point `n` a lane of the running maximum is at most `b` exactly when zero and every absolute value taken in so far are. -/
theorem run_le (c : Dev nD) (j : S16x128.Idx) (b : EReal) : ∀ (n : ℕ) (h : n < cfg0.N),
    ((outsAt0 m c n h).2.2.2.2.2 j ≤ b ↔ 0 ≤ b ∧ ∀ (s : ℕ) (hs : s ≤ n), LaneLe m c ⟨s, Nat.lt_of_le_of_lt hs h⟩ j b)
  | 0, h => by
    have e := run_first m c ⟨0, h⟩ rfl j
    dsimp only at e
    rw [e, lane_le, zeroLane_apply]
    refine and_congr_right fun _ => ⟨fun H s hs => ?_, fun H => H 0 le_rfl⟩
    obtain rfl : s = 0 := by omega
    exact H
  | n + 1, h => by
    have hN := lt_of_lt_of_eq h (show cfg0.N = 528 from N_0)
    have e := run_next m c ⟨n + 1, h⟩ (by dsimp only; omega) j
    dsimp only [Nat.add_sub_cancel] at e
    rw [e, lane_le]
    refine (and_congr_left' (run_le c j b n _)).trans ?_
    rw [and_assoc]
    refine and_congr_right fun _ => ⟨fun H s hs => ?_, fun H => ⟨fun s hs => H s (by omega), H (n + 1) le_rfl⟩⟩
    by_cases hsn : s = n + 1
    · subst hsn; exact H.2
    · exact H.1 s (by omega)

/-- The array of maxima after the run is the largest absolute value of `dy`, everywhere. -/
theorem final_amax (c : Dev nD) : (dats m 0 c).arrAt 7 cfg0.N
    = fun _ => Cert.Spec.amax (m ((c : Thread nD τ).loc main_arg3) : S24576x16896.Idx → EReal) := by
  refine (dats m 0 c).arrAt_eq_of_covers 7 _ (by decide +kernel) fun t hf y => ?_
  blk_simp
  refine eq_of_forall_ge_iff (α := EReal) fun b => ?_
  rw [after0_7, amax_last m c t ((flush0_7 t).mp hf)]
  have hN : cfg0.N = 528 := N_0
  have ht : t.val = 527 := by have := (flush0_7 t).mp hf; have := lt_of_lt_of_eq t.isLt hN; omega
  rw [all_le, Cert.Spec.amax_le]
  have hx := dy_apply m c
  constructor
  · intro H i
    have hi := (i 0).isLt
    simp at hi
    have hi1 := (i 1).isLt
    simp at hi1
    have := ((run_le m c (ix2 ⟨(i 0).val % 16, by omega⟩ ⟨(i 1).val % 128, by omega⟩) b t.val t.isLt).mp (H _)).2
      ((i 0).val / 512 * 11 + (i 1).val / 1536) (by omega) (ix2 ⟨(i 0).val % 512, by omega⟩ ⟨(i 1).val % 1536, by omega⟩)
      (by show (i 0).val % 512 % 16 = (i 0).val % 16; omega) (by show (i 1).val % 1536 % 128 = (i 1).val % 128; omega)
    rw [hx] at this
    refine (le_of_eq (congrArg (fun q => Cert.Spec.abs (m ((c : Thread nD τ).loc main_arg3) q)) ?_)).trans this
    ext d
    match d with
    | 0 => show (i 0).val = ((i 0).val / 512 * 11 + (i 1).val / 1536) / 11 * 512 + (i 0).val % 512; omega
    | 1 => show (i 1).val = ((i 0).val / 512 * 11 + (i 1).val / 1536) % 11 * 1536 + (i 1).val % 1536; omega
  · intro H j
    rw [run_le]
    refine ⟨(Cert.Spec.abs_nonneg _).trans (H (ix2 0 0)), fun s hs k _ _ => ?_⟩
    rw [hx]
    exact H _

end Cert.FwdDxIdeal.Value

end
-- ==== Proof.FwdDxReference.lean ====
/-
  What the reference of the forward and input-gradient call computes: one forward product, the codes of `dy`, one product of these codes
  with those of `w`, and the host's maximum of the absolute values of `dy`.
-/
module

public import proofs.«01_k».proof.Proof.Gen.FwdDxReferenceIdeal.Run
public import Idealize.ShloMosaic.Lib.Pipeline.ValueKit
public import Idealize.ShloMosaic.Lib.Pipeline.ReadBack
public import proofs.«01_k».proof.Proof.FwdDxSpec

@[expose] public section

set_option maxRecDepth 16384

noncomputable section

namespace Cert.FwdDxReferenceIdeal.Value

open Cert.FwdDxReferenceIdeal Cert.FwdDxReferenceIdeal.Gen
open Idealize.ShloMosaic Idealize.ShloMosaic.TcCoe Idealize.SL.Sem
open Idealize.ShloMosaic.Pipeline (Dat)

variable (m : (ℓ : Loc nD τ sig) → Buf (Elt Ideal) ℓ)

/-- At the one grid point every window starts at the origin of its array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

/-- The forward payload is the product of the two whole matrices, times the product of two numbers. -/
theorem y_apply (p q : EReal) (x : S24576x1536.Idx → EReal) (w : S1536x16896.Idx → EReal) (j : S24576x16896.Idx) :
    k0_pay1 (F := Ideal) p q x w j = (∑ k : Fin 1536, x (ix2 (j 0) k) * w (ix2 k (j 1))) * (p * q) := by
  pointwise [k0_pay1]

/-- The code payload multiplies by one number and clips. -/
theorem codes_apply (s : EReal) (v : S24576x16896.Idx → EReal) (j : S24576x16896.Idx) :
    k0_pay2 (F := Ideal) s v j
      = Cert.Spec.codes (Ideal.ofBits .f32 0xC7600000#32) (Ideal.ofBits .f32 0x47600000#32) s v j := by
  pointwise [k0_pay2, Cert.Spec.codes]

/-- The input-gradient payload is the product of the codes of `dy` and the codes of `w`, over the columns of both, times the product of two
    numbers. -/
theorem dx_apply (q p s : EReal) (v : S24576x16896.Idx → EReal) (w : S1536x16896.Idx → EReal) (j : S24576x1536.Idx) :
    k0_pay3 (F := Ideal) q p s v w j
      = (∑ k : Fin 16896, Cert.Spec.codes (Ideal.ofBits .f32 0xC7600000#32) (Ideal.ofBits .f32 0x47600000#32) s v (ix2 (j 0) k)
          * w (ix2 (j 1) k)) * (p * q) := by
  pointwise [k0_pay3, k0_pay2, Cert.Spec.codes]

/-- The forward product with its tokens in one axis. -/
def yFlat (s : S8x128.Idx → EReal) (x : S24576x1536.Idx → EReal) (w : S1536x16896.Idx → EReal) : S24576x16896.Idx → EReal := fun j =>
  (∑ k : Fin 1536, x (ix2 (j 0) k) * w (ix2 k (j 1))) * (s (ix2 0 0) * s (ix2 1 0))

/-- The input gradient with its tokens in one axis. -/
def dxFlat (s : S8x128.Idx → EReal) (w : S1536x16896.Idx → EReal) (dy : S24576x16896.Idx → EReal) : S24576x1536.Idx → EReal := fun j =>
  (∑ k : Fin 16896, Cert.Spec.dyCodes s dy (ix2 (j 0) k) * w (ix2 (j 1) k)) * (s (ix2 2 0) * s (ix2 1 0))

/-- The region's forward array is the forward product of the arguments. -/
theorem region_y (c : Dev nD) : reg_main_v0_0 m c = yFlat (m ((c : Thread nD τ).loc main_arg0)) (m ((c : Thread nD τ).loc main_arg1)) (m ((c : Thread nD τ).loc main_arg2)) := by
  refine (dats m 0 c).arrAt_eq_of_after_last 4 t0_0 (by decide +kernel) _ fun j => ?_
  blk_simp
  rw [after0_4]
  unfold outsAt0
  frame_out
  simp only [read_unread_whole]
  rw [y_apply]
  refine congrArg₂ (· * ·) (Finset.sum_congr rfl fun k _ => ?_) ?_
  · blk_point [iblk, V, idx t0_0]
  · blk_point [iblk, V, idx t0_0]

/-- The codes are those of `dy`. -/
theorem final_codes (c : Dev nD) : reg_main_v0_2 m c = Cert.Spec.dyCodes (m ((c : Thread nD τ).loc main_arg0)) (m ((c : Thread nD τ).loc main_arg3)) := by
  refine (dats m 0 c).arrAt_eq_of_after_last 6 t0_0 (by decide +kernel) _ fun j => ?_
  blk_simp
  rw [after0_6]
  unfold outsAt0
  frame_out
  simp only [read_unread_whole]
  rw [codes_apply]
  unfold Cert.Spec.dyCodes Cert.Spec.codes
  blk_point [iblk, V, idx t0_0]

/-- The region's input-gradient array is the input gradient of the arguments. -/
theorem region_dx (c : Dev nD) : reg_main_v0_1 m c = dxFlat (m ((c : Thread nD τ).loc main_arg0)) (m ((c : Thread nD τ).loc main_arg2)) (m ((c : Thread nD τ).loc main_arg3)) := by
  refine (dats m 0 c).arrAt_eq_of_after_last 5 t0_0 (by decide +kernel) _ fun j => ?_
  blk_simp
  rw [after0_5]
  unfold outsAt0
  frame_out
  simp only [read_unread_whole]
  rw [dx_apply]
  refine congrArg₂ (· * ·) (Finset.sum_congr rfl fun k _ => ?_) ?_
  · unfold Cert.Spec.dyCodes Cert.Spec.codes
    blk_point [iblk, V, idx t0_0]
  · blk_point [iblk, V, idx t0_0]

/-- Splitting the tokens of a 16896-column array into groups of 8. -/
theorem group_y (v : S24576x16896.Idx → EReal) (j : S3072x8x16896.Idx) :
    shapeCast S3072x8x16896 v shapeCasts_S24576x16896_S3072x8x16896 j = v (ix2 (Cert.Spec.token (j 0) (j 1)) (j 2)) := by
  pointwise [Cert.Spec.token]

/-- Splitting the tokens of a 1536-column array into groups of 8. -/
theorem group_dx (v : S24576x1536.Idx → EReal) (j : S3072x8x1536.Idx) :
    shapeCast S3072x8x1536 v shapeCasts_S24576x1536_S3072x8x1536 j = v (ix2 (Cert.Spec.token (j 0) (j 1)) (j 2)) := by
  pointwise [Cert.Spec.token]

/-- The forward result, its tokens in groups of 8, is the forward product of the arguments. -/
theorem final_y (c : Dev nD) : shapeCast S3072x8x16896 (reg_main_v0_0 m c) shapeCasts_S24576x16896_S3072x8x16896
    = Cert.Spec.y (m ((c : Thread nD τ).loc main_arg0)) (m ((c : Thread nD τ).loc main_arg1)) (m ((c : Thread nD τ).loc main_arg2)) := by
  rw [region_y]
  funext j
  exact group_y _ j

/-- The input gradient, its tokens in groups of 8, is that of the arguments. -/
theorem final_dx (c : Dev nD) : shapeCast S3072x8x1536 (reg_main_v0_1 m c) shapeCasts_S24576x1536_S3072x8x1536
    = Cert.Spec.dx (m ((c : Thread nD τ).loc main_arg0)) (m ((c : Thread nD τ).loc main_arg2)) (m ((c : Thread nD τ).loc main_arg3)) := by
  rw [region_dx]
  funext j
  exact group_dx _ j

/-- The host's maximum, as an array of one entry, is the largest absolute value. -/
theorem amax_eq (v : S24576x16896.Idx → EReal) :
    (broadcastInDim S1 ![] bcast_S_S1 (extf .f32 (Host.reduce (FloatOps.maximumf (F := Ideal) (φ := .bf16)) (Host.absf (F := Ideal) (φ := .bf16) v) (constant (F := Ideal) S_ .bf16 0xFF80#16) reducesTo_S24576x16896_S_d0_1 h_S_) bitsLt_bf16_f32) : S1.Idx → EReal)
      = fun _ => Cert.Spec.amax v := by
  haveI : Subsingleton S_.Idx := ⟨fun a b => funext fun d => d.elim0⟩
  funext j
  refine eq_of_forall_ge_iff fun b => ?_
  refine Iff.trans ?_ (Cert.Spec.amax_le v b).symm
  have H := fun k => Cert.Spec.hostReduce_all_le (t := S_) (φ := .bf16) (Host.absf (F := Ideal) (φ := .bf16) v)
    (constant (F := Ideal) S_ .bf16 0xFF80#16) reducesTo_S24576x16896_S_d0_1 h_S_
    (fun i => by simp [constant, Ideal.ofBits, Ideal.ieee]) k b
  generalize Host.reduce (FloatOps.maximumf (F := Ideal) (φ := .bf16)) (Host.absf (F := Ideal) (φ := .bf16) v)
    (constant (F := Ideal) S_ .bf16 0xFF80#16) reducesTo_S24576x16896_S_d0_1 h_S_ = r at H ⊢
  exact H _

end Cert.FwdDxReferenceIdeal.Value

end
-- ==== Proof.FwdDxPair.lean ====
/-
  THE PAIR OF THE FORWARD PRODUCT AND THE INPUT GRADIENT: kernel and reference, each run in the terms of the specification,
  end with equal outputs, input gradients, gradient codes and rolled histories.
-/
module

public import proofs.«01_k».proof.Defs
public import proofs.«01_k».proof.Proof.FwdDxArrays
public import proofs.«01_k».proof.Proof.FwdDxReference
public import Idealize.ShloMosaic.Lib.Claim

@[expose] public section

noncomputable section

open Idealize.ShloMosaic Idealize.SL.Sem

namespace Cert.FwdDxIdeal.Value

variable (m : (ℓ : Loc nD τ sig) → Buf (Elt Ideal) ℓ) (ρ : Dev nD → PrngReg)

/-- The one entry that is put at the end of the history. -/
theorem entry_eq (c : Dev nD) : (shapeCast S1 (extractStridedSlice S1x1 ![0, 0] (reg_main_v0_3 m c) Gen.slices_S8x128_S1x1_0_0) Gen.shapeCasts_S1x1_S1 : S1.Idx → EReal)
    = fun _ => Cert.Spec.amax (m ((c.tc : Thread nD τ).loc main_arg3) : S24576x16896.Idx → EReal) := by
  funext i
  exact congrFun (final_amax m c) _

/-- The kernel's run, in the terms of the specification. -/
theorem spec_run : θ_run defs (onTc (τ := τ) (main (F := Ideal))) ⟨m, fun _ => 0, ρ⟩ fun r => ∀ c : Dev nD,
    r.2.mem ((c.tc : Thread nD τ).loc main_v0_0) = Cert.Spec.y (m ((c.tc : Thread nD τ).loc main_arg0)) (m ((c.tc : Thread nD τ).loc main_arg1)) (m ((c.tc : Thread nD τ).loc main_arg2))
      ∧ r.2.mem ((c.tc : Thread nD τ).loc main_v0_1) = Cert.Spec.dx (m ((c.tc : Thread nD τ).loc main_arg0)) (m ((c.tc : Thread nD τ).loc main_arg2)) (m ((c.tc : Thread nD τ).loc main_arg3))
      ∧ r.2.mem ((c.tc : Thread nD τ).loc main_v0_2) = Cert.Spec.dyCodes (m ((c.tc : Thread nD τ).loc main_arg0)) (m ((c.tc : Thread nD τ).loc main_arg3))
      ∧ r.2.mem ((c.tc : Thread nD τ).loc main_v4)
        = Cert.Spec.rolled Gen.slices_S16_S15_1 Gen.concatenates_S15_S1_S16_d0 (m ((c.tc : Thread nD τ).loc main_arg4))
            (Cert.Spec.amax (m ((c.tc : Thread nD τ).loc main_arg3) : S24576x16896.Idx → EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final_y m c), (h c).2.1.trans (final_dx m c), (h c).2.2.1.trans (final_codes m c), (h c).2.2.2.1.trans (congrArg (fun v : S1.Idx → EReal => concatenate S16 0 [⟨S15, extractStridedSlice S15 ![1] (m ((c.tc : Thread nD τ).loc main_arg4)) Gen.slices_S16_S15_1⟩, ⟨S1, v⟩]
        Gen.concatenates_S15_S1_S16_d0) (entry_eq m c)), (h c).2.2.2.2⟩)
    (run m ρ)

end Cert.FwdDxIdeal.Value

namespace Cert.FwdDxReferenceIdeal.Value

variable (m : (ℓ : Loc nD τ sig) → Buf (Elt Ideal) ℓ) (ρ : Dev nD → PrngReg)

/-- The reference's run, in the same terms. -/
theorem spec_run : θ_run defs (onTc (τ := τ) (main (F := Ideal))) ⟨m, fun _ => 0, ρ⟩ fun r => ∀ c : Dev nD,
    r.2.mem ((c.tc : Thread nD τ).loc main_v1) = Cert.Spec.y (m ((c.tc : Thread nD τ).loc main_arg0)) (m ((c.tc : Thread nD τ).loc main_arg1)) (m ((c.tc : Thread nD τ).loc main_arg2))
      ∧ r.2.mem ((c.tc : Thread nD τ).loc main_v2) = Cert.Spec.dx (m ((c.tc : Thread nD τ).loc main_arg0)) (m ((c.tc : Thread nD τ).loc main_arg2)) (m ((c.tc : Thread nD τ).loc main_arg3))
      ∧ r.2.mem ((c.tc : Thread nD τ).loc main_v0_2) = Cert.Spec.dyCodes (m ((c.tc : Thread nD τ).loc main_arg0)) (m ((c.tc : Thread nD τ).loc main_arg3))
      ∧ r.2.mem ((c.tc : Thread nD τ).loc main_v8)
        = Cert.Spec.rolled Gen.slices_S16_S15_1 Gen.concatenates_S15_S1_S16_d0 (m ((c.tc : Thread nD τ).loc main_arg4))
            (Cert.Spec.amax (m ((c.tc : Thread nD τ).loc main_arg3) : S24576x16896.Idx → EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final_y m c), (h c).2.1.trans (final_dx m c), (h c).2.2.1.trans (final_codes m c), (h c).2.2.2.1.trans (congrArg (fun v : S1.Idx → EReal => concatenate S16 0 [⟨S15, extractStridedSlice S15 ![1] (m ((c.tc : Thread nD τ).loc main_arg4)) Gen.slices_S16_S15_1⟩, ⟨S1, v⟩]
        Gen.concatenates_S15_S1_S16_d0) (amax_eq _)), (h c).2.2.2.2⟩)
    (run m ρ)

end Cert.FwdDxReferenceIdeal.Value

/-- Kernel and reference agree on every result. -/
theorem Cert.Pair.FwdDx : Cert.algebraic_FwdDxIdeal_FwdDxReferenceIdeal := by
  intro m g m' g' _ hagree
  refine ⟨_, _, _, _, Cert.FwdDxIdeal.Value.spec_run m g,
    (θ_run _ _ _).mono (fun r h c => ?_) (Cert.FwdDxReferenceIdeal.Value.spec_run m' g')⟩
  obtain ⟨h0, h1, h2, h3, kept⟩ := h c
  obtain ⟨e0, e1, e2, e3, e4⟩ := hagree c
  exact ⟨by rw [h0, e0, e1, e2], by rw [h1, e0, e2, e3], by rw [h2, e0, e3], by rw [h3, e3, e4], kept⟩

end
-- ==== Proof.DwKernel.lean ====
/-
  What the weight-gradient call computes. Its grid walks the eleven column blocks of the result and, inside each, the
  twelve token blocks: the first token block starts from zero, each one adds its own product, and the last multiplies
  the finished sum by the two scales. So the result array is the weight gradient `Cert.Spec.dw` of the arguments.
-/
module

public import proofs.«01_k».proof.Proof.Gen.DwIdeal.Value
public import Idealize.ShloMosaic.Lib.Pipeline.ValueKit
public import Idealize.ShloMosaic.Lib.Pipeline.ReadBack
public import proofs.«01_k».proof.Proof.DwSpec

@[expose] public section

set_option maxRecDepth 16384

noncomputable section

namespace Cert.DwIdeal.Value

open Cert.DwIdeal Cert.DwIdeal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at each grid point: point `t` is token block `t % 12` of column block `t / 12`. -/
theorem idx : ∀ t : Fin cfg0.N, win0_0.index t = ![0, 0] ∧ win0_1.index t = ![t.val % 12, 0]
    ∧ win0_2.index t = ![t.val % 12, t.val / 12] ∧ win0_3.index t = ![0, t.val / 12] :=
  (by decide +kernel : ∀ t : Fin grid0.N, _)

/-- The scale table at grid point `t`. -/
abbrev sBlk (c : Dev nD) (t : Fin cfg0.N) : S8x128.Idx → EReal := iblk m c 0 t
/-- The block of codes of `x` at grid point `t`. -/
abbrev xBlk (c : Dev nD) (t : Fin cfg0.N) : S2048x1536.Idx → EReal := iblk m c 1 t
/-- The block of codes of `dy` at grid point `t`. -/
abbrev yBlk (c : Dev nD) (t : Fin cfg0.N) : S2048x1536.Idx → EReal := iblk m c 2 t

/-- The product of one token block: column `j 0` of the block of codes of `x` with column `j 1` of that of `dy`. -/
def part (c : Dev nD) (t : Fin cfg0.N) (j : S1536x1536.Idx) : EReal :=
  ∑ k : Fin 2048, xBlk m c t (ix2 k (j 0)) * yBlk m c t (ix2 k (j 1))

/-- The zero block is zero everywhere. -/
theorem zero_apply (j : S1536x1536.Idx) : k0_pay1 (F := Ideal) j = 0 := by pointwise [k0_pay1]

/-- The accumulating payload adds one token block's product. -/
theorem add_apply (a : S1536x1536.Idx → EReal) (x : S2048x1536.Idx → EReal) (y : S2048x1536.Idx → EReal)
    (j : S1536x1536.Idx) : k0_pay2 (F := Ideal) a x y j = a j + ∑ k : Fin 2048, x (ix2 k (j 0)) * y (ix2 k (j 1)) := by
  pointwise [k0_pay2]

/-- The closing payload multiplies by the product of two numbers. -/
theorem scale_apply (a : S1536x1536.Idx → EReal) (p q : EReal) (j : S1536x1536.Idx) :
    k0_pay3 (F := Ideal) a p q j = a j * (p * q) := by pointwise [k0_pay3]

/-- At the first token block the buffer is left at that block's product. -/
theorem outs_first (c : Dev nD) (t : Fin cfg0.N) (h0 : t.val % 12 = 0) (j : S1536x1536.Idx) :
    outsAt0 m c t.val t.isLt j = 0 + part m c t j := by
  rw [outsAt0_A m c t h0 (by omega)]
  frame_out
  rw [add_apply, zero_apply]; rfl

/-- At a token block that is neither first nor last the buffer gains that block's product. -/
theorem outs_next (c : Dev nD) (t : Fin cfg0.N) (h0 : ¬t.val % 12 = 0) (h1 : ¬t.val % 12 = 11) (j : S1536x1536.Idx) :
    outsAt0 m c t.val t.isLt j
      = outsAt0 m c (t.val - 1) (Nat.lt_of_le_of_lt (Nat.sub_le _ _) t.isLt) j + part m c t j := by
  rw [outsAt0_B m c t h0 h1]
  frame_out
  rw [add_apply]; rfl

/-- At the last token block the buffer gains that block's product and is multiplied by the two scales. -/
theorem outs_last (c : Dev nD) (t : Fin cfg0.N) (h0 : ¬t.val % 12 = 0) (h1 : t.val % 12 = 11) (j : S1536x1536.Idx) :
    outsAt0 m c t.val t.isLt j
      = (outsAt0 m c (t.val - 1) (Nat.lt_of_le_of_lt (Nat.sub_le _ _) t.isLt) j + part m c t j)
        * (sBlk m c t (ix2 0 0) * sBlk m c t (ix2 2 0)) := by
  rw [outsAt0_C m c t h0 h1]
  frame_out
  rw [scale_apply, add_apply]
  pointwise
  rfl

/-- The sum before the closing multiplication, point by point. -/
def sumAt (c : Dev nD) (n : ℕ) (h : n < cfg0.N) (j : S1536x1536.Idx) : EReal :=
  if n % 12 = 11 then
    outsAt0 m c (n - 1) (Nat.lt_of_le_of_lt (Nat.sub_le _ _) h) j + part m c ⟨n, h⟩ j
  else outsAt0 m c n h j

/-- After the last token block of a run the sum is that of the twelve blocks' products. -/
theorem sumAt_last (c : Dev nD) (t : Fin cfg0.N) (h : t.val % 12 = 11) (j : S1536x1536.Idx) :
    sumAt m c t.val t.isLt j
      = 0 + ∑ s : Fin 12, part m c ⟨12 * (t.val / 12) + s.val, Pipeline.run_point_lt_of_flush t h s⟩ j := by
  refine Pipeline.eq_sum_fin_of_reset_step_apply_of_flush (fun n h => sumAt m c n h) 12 (fun _ => 0) (part m c)
    (fun t h0 j => ?_) (fun t h0 j => ?_) t h j
  · unfold sumAt
    rw [if_neg (by omega)]
    exact outs_first m c t h0 j
  · unfold sumAt
    rw [if_neg (show ¬(t.val - 1) % 12 = 11 by omega)]
    by_cases h1 : t.val % 12 = 11
    · rw [if_pos h1]
    · rw [if_neg h1]
      exact outs_next m c t h0 h1 j

/-- The call's result array after the run is the weight gradient of its three arguments. -/
theorem final (c : Dev nD) : (dats m 0 c).arrAt 3 cfg0.N
    = Cert.Spec.dw (m ((c : Thread nD τ).loc main_arg0)) (m ((c : Thread nD τ).loc main_arg1))
        (m ((c : Thread nD τ).loc main_arg2)) := by
  refine (dats m 0 c).arrAt_eq_of_covers 3 _ (by decide +kernel) fun t hf y => ?_
  have hl : t.val % 12 = 11 := (flush0_3 t).mp hf
  blk_simp
  have hs := sumAt_last m c t hl y
  unfold sumAt at hs
  rw [if_pos hl] at hs
  rw [after0_3, outs_last m c t (by omega) hl, hs, zero_add]
  refine congrArg₂ (· * ·) ?_ ?_
  · refine Fin.sum_mul_add_congr fun s k hl => ?_
    blk_point [iblk, V, idx t, idx ⟨_, Pipeline.run_point_lt_of_flush t ((flush0_3 t).mp hf) s⟩]
  · blk_point [iblk, V, idx t]

end Cert.DwIdeal.Value

end
-- ==== Proof.DwReference.lean ====
/-
  What the reference of the weight-gradient call computes: one product of the two whole code matrices over the token
  axis, times the product of the two scales.
-/
module

public import proofs.«01_k».proof.Proof.Gen.DwReferenceIdeal.Value
public import Idealize.ShloMosaic.Lib.Pipeline.ValueKit
public import Idealize.ShloMosaic.Lib.Pipeline.ReadBack
public import proofs.«01_k».proof.Proof.DwSpec

@[expose] public section

set_option maxRecDepth 16384

noncomputable section

namespace Cert.DwReferenceIdeal.Value

open Cert.DwReferenceIdeal Cert.DwReferenceIdeal.Gen
open Idealize.ShloMosaic Idealize.ShloMosaic.TcCoe Idealize.SL.Sem
open Idealize.ShloMosaic.Pipeline (Dat)

variable (m : (ℓ : Loc nD τ sig) → Buf (Elt Ideal) ℓ)

/-- At the one grid point every window starts at the origin of its array. -/
theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

/-- The reference's result array after the run is the weight gradient of its three arguments. -/
theorem final (c : Dev nD) : (dats m 0 c).arrAt 3 cfg0.N
    = Cert.Spec.dw (m ((c : Thread nD τ).loc main_arg0)) (m ((c : Thread nD τ).loc main_arg1))
        (m ((c : Thread nD τ).loc main_arg2)) := by
  refine (dats m 0 c).arrAt_eq_of_after_last 3 t0_0 (by decide +kernel) _ fun j => ?_
  blk_simp
  rw [after0_3]
  unfold outsAt0
  frame_out
  simp only [read_unread_whole]
  pointwise [k0_pay1, Cert.Spec.dw]
  blk_point [iblk, V, idx t0_0]

end Cert.DwReferenceIdeal.Value

end
-- ==== Proof.DwPair.lean ====
/-
  THE PAIR OF THE WEIGHT GRADIENT: kernel and reference, each run in the terms of the specification, end with equal arrays.
-/
module

public import proofs.«01_k».proof.Defs
public import proofs.«01_k».proof.Proof.DwKernel
public import proofs.«01_k».proof.Proof.DwReference
public import Idealize.ShloMosaic.Lib.Claim

@[expose] public section

noncomputable section

open Idealize.ShloMosaic Idealize.SL.Sem

namespace Cert.DwIdeal.Value

variable (m : (ℓ : Loc nD τ sig) → Buf (Elt Ideal) ℓ) (ρ : Dev nD → PrngReg)

/-- The kernel's run, in the terms of the specification. -/
theorem spec_run : θ_run defs (onTc (τ := τ) (main (F := Ideal))) ⟨m, fun _ => 0, ρ⟩ fun r => ∀ c : Dev nD,
    r.2.mem ((c.tc : Thread nD τ).loc main_v0) = Cert.Spec.dw (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩)
    (run_blocks m ρ)

end Cert.DwIdeal.Value

namespace Cert.DwReferenceIdeal.Value

variable (m : (ℓ : Loc nD τ sig) → Buf (Elt Ideal) ℓ) (ρ : Dev nD → PrngReg)

/-- The reference's run, in the same terms. -/
theorem spec_run : θ_run defs (onTc (τ := τ) (main (F := Ideal))) ⟨m, fun _ => 0, ρ⟩ fun r => ∀ c : Dev nD,
    r.2.mem ((c.tc : Thread nD τ).loc main_v0) = Cert.Spec.dw (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩)
    (run_blocks m ρ)

end Cert.DwReferenceIdeal.Value

/-- Kernel and reference agree on every result. -/
theorem Cert.Pair.Dw : Cert.algebraic_DwIdeal_DwReferenceIdeal := by
  intro m g m' g' _ hagree
  refine ⟨_, Cert.DwIdeal.Value.spec_run m g,
    (θ_run _ _ _).mono (fun r h c => ?_) (Cert.DwReferenceIdeal.Value.spec_run m' g')⟩
  obtain ⟨h0, kept⟩ := h c
  obtain ⟨e0, e1, e2⟩ := hagree c
  exact ⟨by rw [h0, e0, e1, e2], kept⟩

end
-- ==== Proof.QuantXPayloads.lean ====
/-
  What the payloads of the quantiser call of `x` compute: the codes of a row block, and the 16 by 128 lanes into which the absolute
  values of a row block are taken by maximum. Each maximum is stated by its upper bounds.
-/
module

public import proofs.«01_k».proof.Proof.Gen.QuantXIdeal.Run
public import Idealize.ShloMosaic.Lib.Pipeline.Value
public import Idealize.ShloMosaic.Lib.Pipeline.ValueKit
public import Idealize.ShloMosaic.Lib.Pipeline.ReadBack
public import proofs.«01_k».proof.Proof.AmaxSpec

@[expose] public section

set_option maxRecDepth 16384

noncomputable section

namespace Cert.QuantXIdeal.Value

open Cert.QuantXIdeal Cert.QuantXIdeal.Gen
open Idealize.ShloMosaic Idealize.ShloMosaic.TcCoe Idealize.SL.Sem
open Idealize.ShloMosaic.Pipeline (Dat)

/-- The code payload multiplies by one number and clips. -/
theorem codes_apply (v : S1024x1536.Idx → EReal) (s : EReal) (j : S1024x1536.Idx) :
    k0_pay3 (F := Ideal) v s j
      = Cert.Spec.codes (Ideal.ofBits .f32 0xC3E00000#32) (Ideal.ofBits .f32 0x43E00000#32) s v j := by
  pointwise [k0_pay3, Cert.Spec.codes]

/-- The block that the running maximum starts from is zero everywhere. -/
theorem zero_apply (j : S16x128.Idx) : k0_pay5 (F := Ideal) j = 0 := by pointwise [k0_pay5]

/-- The running maximum takes in one block lane by lane. -/
theorem max_apply (p a : S16x128.Idx → EReal) (j : S16x128.Idx) : k0_pay1 (F := Ideal) p a j = max (a j) (p j) := by
  pointwise [k0_pay1]

/-- The maximum over the rows of one block with one residue modulo 16. -/
def rowMax (v : S1024x1536.Idx → EReal) : S16x1536.Idx → EReal :=
  multiReduction (F := Ideal) (φ := .bf16) .maximumf [0] S16x1536 (shapeCast S64x16x1536 (absf (F := Ideal) (φ := .bf16) v) shapeCasts_S1024x1536_S64x16x1536) 0xFF80#16 reduces_S64x16x1536_S16x1536 (.inr rfl) rfl

/-- `rowMax` is at most `b` exactly when every absolute value it is taken over is. -/
theorem rowMax_le (v : S1024x1536.Idx → EReal) (i : S16x1536.Idx) (b : EReal) :
    rowMax v i ≤ b ↔ ∀ k : S1024x1536.Idx, (k 0).val % 16 = (i 0).val → (k 1).val = (i 1).val → Cert.Spec.abs (v k) ≤ b := by
  pointwise [rowMax]
  have hbot : Ideal.ofBits FTy.bf16 65408#16 = ⊥ := by simp [Ideal.ofBits, Ideal.ieee]
  rw [hbot, Cert.Spec.fold_filter_le]
  have hi := (i 0).isLt
  refine ⟨fun H k h0 h1 => ?_, fun H r _ => H _ ?_ rfl⟩
  · have := H ⟨(k 0).val / 16, by have := (k 0).isLt; simp at this; omega⟩ (Finset.mem_univ _)
    refine (le_of_eq (congrArg (fun q => Cert.Spec.abs (v q)) ?_)).trans this
    ext d
    match d with
    | 0 => show (k 0).val = _; simp; omega
    | 1 => exact h1
  · show (r.val * 16 + (i 0).val) % 16 = _
    simp at hi
    omega

/-- A lane of the payload that folds a block is at most `b` exactly when every absolute value of the block in that lane is. -/
theorem lane_le (v : S1024x1536.Idx → EReal) (j : S16x128.Idx) (b : EReal) :
    k0_pay4 (F := Ideal) v j ≤ b
      ↔ ∀ k : S1024x1536.Idx, (k 0).val % 16 = (j 0).val → (k 1).val % 128 = (j 1).val → Cert.Spec.abs (v k) ≤ b := by
  have e : k0_pay4 (F := Ideal) v j ≤ b ↔ ∀ i : S16x1536.Idx, (i 0).val = (j 0).val → (i 1).val % 128 = (j 1).val → rowMax v i ≤ b := by
    unfold k0_pay4
    dsimp only
    generalize hr : rowMax v = r
    unfold rowMax at hr
    rw [hr]
    pointwise
    simp only [max_le_iff]
    have hj := (j 1).isLt
    simp at hj
    constructor
    · rintro ⟨⟨⟨⟨⟨⟨⟨⟨⟨⟨⟨h0, h1⟩, h2⟩, h3⟩, h4⟩, h5⟩, h6⟩, h7⟩, h8⟩, h9⟩, h10⟩, h11⟩ i e0 e1
      have key : ∀ (n : ℕ) (hn : n + (j 1).val < 1536), (i 1).val = n + (j 1).val → r (ix2 (j 0) ⟨n + (j 1).val, hn⟩) ≤ b → r i ≤ b := by
        intro n hn hi hr
        refine (le_of_eq (congrArg r ?_)).trans hr
        ext d
        match d with
        | 0 => exact e0
        | 1 => exact hi
      have hi := (i 1).isLt
      simp at hi
      obtain ⟨q, hq⟩ : ∃ q, q = (i 1).val / 128 := ⟨_, rfl⟩
      have hq' : q < 12 := by omega
      interval_cases q
      · exact key 0 (by omega) (by omega) (by simpa using h0)
      · exact key 128 (by omega) (by omega) h1
      · exact key 256 (by omega) (by omega) h2
      · exact key 384 (by omega) (by omega) h3
      · exact key 512 (by omega) (by omega) h4
      · exact key 640 (by omega) (by omega) h5
      · exact key 768 (by omega) (by omega) h6
      · exact key 896 (by omega) (by omega) h7
      · exact key 1024 (by omega) (by omega) h8
      · exact key 1152 (by omega) (by omega) h9
      · exact key 1280 (by omega) (by omega) h10
      · exact key 1408 (by omega) (by omega) h11
    · intro H
      refine ⟨⟨⟨⟨⟨⟨⟨⟨⟨⟨⟨?_, ?_⟩, ?_⟩, ?_⟩, ?_⟩, ?_⟩, ?_⟩, ?_⟩, ?_⟩, ?_⟩, ?_⟩, ?_⟩ <;>
        exact H _ rfl (by show (_ : ℕ) % 128 = _; simp; try omega)
  rw [e]
  refine ⟨fun H k h0 h1 => ?_, fun H i h0 h1 => (rowMax_le v i b).mpr fun k k0 k1 => H k (by omega) (by omega)⟩
  exact (rowMax_le v (ix2 (j 0) (k 1)) b).mp (H _ rfl h1) k h0 rfl

/-- The closing payload is at most `b` exactly when every lane is. -/
theorem all_le (v : S16x128.Idx → EReal) (j : S8x128.Idx) (b : EReal) :
    k0_pay2 (F := Ideal) v j ≤ b ↔ ∀ i, v i ≤ b := by
  haveI : Subsingleton S1.Idx := ⟨fun a b => funext fun d => match d with | 0 => Subsingleton.elim (α := Fin 1) _ _⟩
  have H := fun k => Cert.Spec.multiReduction_all_le (t := S1) (φ := .f32) (axes := [1, 2]) v shapeCasts_S16x128_S1x16x128 0xFF800000#32
    reduces_S1x16x128_S1 (.inl rfl) rfl (by simp [Ideal.ofBits, Ideal.ieee]) k b
  have e : extf (F := Ideal) .f32 (show FVec Ideal S16x128 .bf16 from v) bitsLt_bf16_f32 = v := rfl
  unfold k0_pay2
  simp only [e, broadcast, extractAt, shapeCast.eq_1 S1x1x1]
  exact H _

end Cert.QuantXIdeal.Value

end
-- ==== Proof.QuantXKernel.lean ====
/-
  What the quantiser call of `x` computes. Its grid walks the 24 row blocks of `x`: each one writes the codes of its rows
  and takes the absolute values of its rows into a running maximum, kept in 16 by 128 lanes; the last one writes the
  largest lane. So the results are the codes `Cert.Spec.codes` of `x` and the largest absolute value `Cert.Spec.amax`.
-/
module

public import proofs.«01_k».proof.Proof.Gen.QuantXIdeal.Run
public import Idealize.ShloMosaic.Lib.Pipeline.Value
public import Idealize.ShloMosaic.Lib.Pipeline.ValueKit
public import Idealize.ShloMosaic.Lib.Pipeline.ReadBack
public import proofs.«01_k».proof.Proof.QuantXPayloads

@[expose] public section

set_option maxRecDepth 16384

noncomputable section

namespace Cert.QuantXIdeal.Value

open Cert.QuantXIdeal Cert.QuantXIdeal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at each grid point: point `t` is row block `t`. -/
theorem idx : ∀ t : Fin cfg0.N, win0_0.index t = ![0, 0] ∧ win0_1.index t = ![t.val, 0]
    ∧ win0_2.index t = ![t.val, 0] ∧ win0_3.index t = ![0, 0] :=
  (by decide +kernel : ∀ t : Fin grid0.N, _)

/-- The scale table at grid point `t`. -/
abbrev sBlk (c : Dev nD) (t : Fin cfg0.N) : S8x128.Idx → EReal := iblk m c 0 t
/-- The row block of `x` at grid point `t`. -/
abbrev xBlk (c : Dev nD) (t : Fin cfg0.N) : S1024x1536.Idx → EReal := iblk m c 1 t

/-- At every point the codes written are those of the point's rows. -/
theorem codes_at (c : Dev nD) (t : Fin cfg0.N) (j : S1024x1536.Idx) :
    (outsAt0 m c t.val t.isLt).1 j
      = Cert.Spec.codes (Ideal.ofBits .f32 0xC3E00000#32) (Ideal.ofBits .f32 0x43E00000#32) (sBlk m c t (ix2 3 0)) (xBlk m c t) j := by
  by_cases h0 : t.val % 24 = 0
  · rw [outsAt0_A m c t h0 (by omega)]
    frame_out
    rw [codes_apply]
    pointwise
  · by_cases h1 : t.val % 24 = 23
    · rw [outsAt0_C m c t h0 h1]
      frame_out
      rw [codes_apply]
      pointwise
    · rw [outsAt0_B m c t h0 h1]
      frame_out
      rw [codes_apply]
      pointwise

/-- After the first point the running maximum has taken in zero and the first block. -/
theorem run_first (c : Dev nD) (t : Fin cfg0.N) (h0 : t.val % 24 = 0) (j : S16x128.Idx) :
    (outsAt0 m c t.val t.isLt).2.2 j = max 0 (k0_pay4 (F := Ideal) (xBlk m c t) j) := by
  rw [outsAt0_A m c t h0 (by omega)]
  frame_out
  rw [max_apply, zero_apply]

/-- At every later point it takes in the point's block. -/
theorem run_next (c : Dev nD) (t : Fin cfg0.N) (h0 : ¬t.val % 24 = 0) (j : S16x128.Idx) :
    (outsAt0 m c t.val t.isLt).2.2 j
      = max ((outsAt0 m c (t.val - 1) (Nat.lt_of_le_of_lt (Nat.sub_le _ _) t.isLt)).2.2 j) (k0_pay4 (F := Ideal) (xBlk m c t) j) := by
  by_cases h1 : t.val % 24 = 23
  · rw [outsAt0_C m c t h0 h1]
    frame_out
    rw [max_apply, read_unread_whole]
  · rw [outsAt0_B m c t h0 h1]
    frame_out
    rw [max_apply, read_unread_whole]

/-- The last point writes the largest lane of the running maximum. -/
theorem amax_last (c : Dev nD) (t : Fin cfg0.N) (h1 : t.val % 24 = 23) (j : S8x128.Idx) :
    (outsAt0 m c t.val t.isLt).2.1 j = k0_pay2 (F := Ideal) (outsAt0 m c t.val t.isLt).2.2 j := by
  rw [outsAt0_C m c t (by omega) h1]
  frame_out

/-- The absolute values of block `t` in lane `j` are at most `b`. -/
def LaneLe (c : Dev nD) (t : Fin cfg0.N) (j : S16x128.Idx) (b : EReal) : Prop :=
  ∀ k : S1024x1536.Idx, (k 0).val % 16 = (j 0).val → (k 1).val % 128 = (j 1).val → Cert.Spec.abs (xBlk m c t k) ≤ b

/-- After point `n` a lane of the running maximum is at most `b` exactly when zero and every absolute value taken in so far are. -/
theorem run_le (c : Dev nD) (j : S16x128.Idx) (b : EReal) : ∀ (n : ℕ) (h : n < cfg0.N),
    ((outsAt0 m c n h).2.2 j ≤ b ↔ 0 ≤ b ∧ ∀ (s : ℕ) (hs : s ≤ n), LaneLe m c ⟨s, Nat.lt_of_le_of_lt hs h⟩ j b)
  | 0, h => by
    have e := run_first m c ⟨0, h⟩ rfl j
    dsimp only at e
    rw [e, max_le_iff, lane_le]
    refine and_congr_right fun _ => ⟨fun H s hs => ?_, fun H => H 0 le_rfl⟩
    obtain rfl : s = 0 := by omega
    exact H
  | n + 1, h => by
    have hN := lt_of_lt_of_eq h (show cfg0.N = 24 from N_0)
    have e := run_next m c ⟨n + 1, h⟩ (by dsimp only; omega) j
    dsimp only [Nat.add_sub_cancel] at e
    rw [e, max_le_iff, lane_le]
    refine (and_congr_left' (run_le c j b n _)).trans ?_
    rw [and_assoc]
    refine and_congr_right fun _ => ⟨fun H s hs => ?_, fun H => ⟨fun s hs => H s (by omega), H (n + 1) le_rfl⟩⟩
    by_cases hsn : s = n + 1
    · subst hsn; exact H.2
    · exact H.1 s (by omega)

/-- The call's first result after the run is the array of codes of its second argument. -/
theorem final_codes (c : Dev nD) : (dats m 0 c).arrAt 2 cfg0.N
    = Cert.Spec.codes (Ideal.ofBits .f32 0xC3E00000#32) (Ideal.ofBits .f32 0x43E00000#32)
        ((m ((c : Thread nD τ).loc main_arg0) : S8x128.Idx → EReal) (ix2 3 0)) (m ((c : Thread nD τ).loc main_arg1)) := by
  refine (dats m 0 c).arrAt_eq_of_covers 2 _ (by decide +kernel) fun t hf y => ?_
  blk_simp
  rw [after0_2, codes_at]
  unfold Cert.Spec.codes
  blk_point [iblk, V, idx t]

/-- The call's second result after the run is the largest absolute value of its second argument, everywhere. -/
theorem final_amax (c : Dev nD) : (dats m 0 c).arrAt 3 cfg0.N
    = fun _ => Cert.Spec.amax (m ((c : Thread nD τ).loc main_arg1) : S24576x1536.Idx → EReal) := by
  refine (dats m 0 c).arrAt_eq_of_covers 3 _ (by decide +kernel) fun t hf y => ?_
  blk_simp
  refine eq_of_forall_ge_iff (α := EReal) fun b => ?_
  rw [after0_3, amax_last m c t ((flush0_3 t).mp hf)]
  have hN : cfg0.N = 24 := N_0
  have ht : t.val = 23 := by have := (flush0_3 t).mp hf; have := lt_of_lt_of_eq t.isLt hN; omega
  rw [all_le, Cert.Spec.amax_le]
  have hx : ∀ (s : Fin cfg0.N) (k : S1024x1536.Idx), xBlk m c s k
      = (m ((c : Thread nD τ).loc main_arg1) : S24576x1536.Idx → EReal)
          (ix2 ⟨s.val * 1024 + (k 0).val, by have := lt_of_lt_of_eq s.isLt hN; have := (k 0).isLt; simp at this; omega⟩ (k 1)) := fun s k => by
    blk_point [iblk, V, idx s]
  constructor
  · intro H i
    have hi := (i 0).isLt
    simp at hi
    have hi1 := (i 1).isLt
    simp at hi1
    have := ((run_le m c (ix2 ⟨(i 0).val % 16, by omega⟩ ⟨(i 1).val % 128, by omega⟩) b t.val t.isLt).mp (H _)).2
      ((i 0).val / 1024) (by omega) (ix2 ⟨(i 0).val % 1024, by omega⟩ (i 1)) (by show (i 0).val % 1024 % 16 = (i 0).val % 16; omega) rfl
    rw [hx] at this
    refine (le_of_eq (congrArg (fun q => Cert.Spec.abs (m ((c : Thread nD τ).loc main_arg1) q)) ?_)).trans this
    ext d
    match d with
    | 0 => show (i 0).val = (i 0).val / 1024 * 1024 + (i 0).val % 1024; omega
    | 1 => rfl
  · intro H j
    rw [run_le]
    refine ⟨(Cert.Spec.abs_nonneg _).trans (H (ix2 0 0)), fun s hs k _ _ => ?_⟩
    rw [hx]
    exact H _

end Cert.QuantXIdeal.Value

end
-- ==== Proof.QuantXReference.lean ====
/-
  What the reference of the quantiser call of `x` computes: the codes of the whole array, and the host's maximum of its absolute
  values.
-/
module

public import proofs.«01_k».proof.Proof.Gen.QuantXReferenceIdeal.Run
public import Idealize.ShloMosaic.Lib.Pipeline.ValueKit
public import Idealize.ShloMosaic.Lib.Pipeline.ReadBack
public import proofs.«01_k».proof.Proof.AmaxSpec

@[expose] public section

set_option maxRecDepth 16384

noncomputable section

namespace Cert.QuantXReferenceIdeal.Value

open Cert.QuantXReferenceIdeal Cert.QuantXReferenceIdeal.Gen
open Idealize.ShloMosaic Idealize.ShloMosaic.TcCoe Idealize.SL.Sem
open Idealize.ShloMosaic.Pipeline (Dat)

variable (m : (ℓ : Loc nD τ sig) → Buf (Elt Ideal) ℓ)

/-- At the one grid point every window starts at the origin of its array. -/
theorem idx : ∀ t : Fin cfg0.N, win0_0.index t = ![0, 0] ∧ win0_1.index t = ![0, 0] ∧ win0_2.index t = ![0, 0] :=
  (by decide +kernel : ∀ t : Fin grid0.N, _)

/-- The region's result array after the run is the array of codes of the second argument. -/
theorem final_codes (c : Dev nD) : reg_main_v0 m c
    = Cert.Spec.codes (Ideal.ofBits .f32 0xC3E00000#32) (Ideal.ofBits .f32 0x43E00000#32)
        ((m ((c : Thread nD τ).loc main_arg0) : S8x128.Idx → EReal) (ix2 3 0)) (m ((c : Thread nD τ).loc main_arg1)) := by
  refine (dats m 0 c).arrAt_eq_of_after_last 2 t0_0 (by decide +kernel) _ fun j => ?_
  blk_simp
  rw [after0_2]
  unfold outsAt0
  frame_out
  simp only [read_unread_whole]
  pointwise [k0_pay1, Cert.Spec.codes]
  blk_point [iblk, V, idx t0_0]

/-- The host's maximum, as an array of one entry, is the largest absolute value. -/
theorem amax_eq (v : S24576x1536.Idx → EReal) :
    (broadcastInDim S1 ![] bcast_S_S1 (extf .f32 (Host.reduce (FloatOps.maximumf (F := Ideal) (φ := .bf16)) (Host.absf (F := Ideal) (φ := .bf16) v) (constant (F := Ideal) S_ .bf16 0xFF80#16) reducesTo_S24576x1536_S_d0_1 h_S_) bitsLt_bf16_f32) : S1.Idx → EReal)
      = fun _ => Cert.Spec.amax v := by
  haveI : Subsingleton S_.Idx := ⟨fun a b => funext fun d => d.elim0⟩
  funext j
  refine eq_of_forall_ge_iff fun b => ?_
  refine Iff.trans ?_ (Cert.Spec.amax_le v b).symm
  have H := fun k => Cert.Spec.hostReduce_all_le (t := S_) (φ := .bf16) (Host.absf (F := Ideal) (φ := .bf16) v)
    (constant (F := Ideal) S_ .bf16 0xFF80#16) reducesTo_S24576x1536_S_d0_1 h_S_
    (fun i => by simp [constant, Ideal.ofBits, Ideal.ieee]) k b
  generalize Host.reduce (FloatOps.maximumf (F := Ideal) (φ := .bf16)) (Host.absf (F := Ideal) (φ := .bf16) v)
    (constant (F := Ideal) S_ .bf16 0xFF80#16) reducesTo_S24576x1536_S_d0_1 h_S_ = r at H ⊢
  exact H _

end Cert.QuantXReferenceIdeal.Value

end
-- ==== Proof.QuantXPair.lean ====
/-
  THE PAIR OF THE ACTIVATIONS' QUANTISER: kernel and reference, each run in the terms of the specification, end with equal codes and an
  equal rolled history.
-/
module

public import proofs.«01_k».proof.Defs
public import proofs.«01_k».proof.Proof.QuantXKernel
public import proofs.«01_k».proof.Proof.QuantXReference
public import Idealize.ShloMosaic.Lib.Claim

@[expose] public section

noncomputable section

open Idealize.ShloMosaic Idealize.SL.Sem

namespace Cert.QuantXIdeal.Value

variable (m : (ℓ : Loc nD τ sig) → Buf (Elt Ideal) ℓ) (ρ : Dev nD → PrngReg)

/-- The one entry that is put at the end of the history. -/
theorem entry_eq (c : Dev nD) : (shapeCast S1 (extractStridedSlice S1x1 ![0, 0] (reg_main_v0_1 m c) Gen.slices_S8x128_S1x1_0_0) Gen.shapeCasts_S1x1_S1 : S1.Idx → EReal)
    = fun _ => Cert.Spec.amax (m ((c.tc : Thread nD τ).loc main_arg1) : S24576x1536.Idx → EReal) := by
  funext i
  exact congrFun (final_amax m c) _

/-- The kernel's run: its codes and its rolled history, in the terms of the specification. -/
theorem spec_run : θ_run defs (onTc (τ := τ) (main (F := Ideal))) ⟨m, fun _ => 0, ρ⟩ fun r => ∀ c : Dev nD,
    r.2.mem ((c.tc : Thread nD τ).loc main_v0_0)
        = Cert.Spec.codes (Ideal.ofBits .f32 0xC3E00000#32) (Ideal.ofBits .f32 0x43E00000#32)
            ((m ((c.tc : Thread nD τ).loc main_arg0) : S8x128.Idx → EReal) (ix2 3 0)) (m ((c.tc : Thread nD τ).loc main_arg1))
      ∧ r.2.mem ((c.tc : Thread nD τ).loc main_v4)
        = Cert.Spec.rolled Gen.slices_S16_S15_1 Gen.concatenates_S15_S1_S16_d0 (m ((c.tc : Thread nD τ).loc main_arg2))
            (Cert.Spec.amax (m ((c.tc : Thread nD τ).loc main_arg1) : S24576x1536.Idx → EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_codes m c), (h c).2.1.trans (congrArg (fun v : S1.Idx → EReal => concatenate S16 0 [⟨S15, extractStridedSlice S15 ![1] (m ((c.tc : Thread nD τ).loc main_arg2)) Gen.slices_S16_S15_1⟩, ⟨S1, v⟩]
        Gen.concatenates_S15_S1_S16_d0) (entry_eq m c)), (h c).2.2⟩)
    (run m ρ)

end Cert.QuantXIdeal.Value

namespace Cert.QuantXReferenceIdeal.Value

variable (m : (ℓ : Loc nD τ sig) → Buf (Elt Ideal) ℓ) (ρ : Dev nD → PrngReg)

/-- The reference's run, in the same terms. -/
theorem spec_run : θ_run defs (onTc (τ := τ) (main (F := Ideal))) ⟨m, fun _ => 0, ρ⟩ fun r => ∀ c : Dev nD,
    r.2.mem ((c.tc : Thread nD τ).loc main_v0)
        = Cert.Spec.codes (Ideal.ofBits .f32 0xC3E00000#32) (Ideal.ofBits .f32 0x43E00000#32)
            ((m ((c.tc : Thread nD τ).loc main_arg0) : S8x128.Idx → EReal) (ix2 3 0)) (m ((c.tc : Thread nD τ).loc main_arg1))
      ∧ r.2.mem ((c.tc : Thread nD τ).loc main_v6)
        = Cert.Spec.rolled Gen.slices_S16_S15_1 Gen.concatenates_S15_S1_S16_d0 (m ((c.tc : Thread nD τ).loc main_arg2))
            (Cert.Spec.amax (m ((c.tc : Thread nD τ).loc main_arg1) : S24576x1536.Idx → EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_codes m c), (h c).2.1.trans (congrArg (fun v : S1.Idx → EReal => concatenate S16 0 [⟨S15, extractStridedSlice S15 ![1] (m ((c.tc : Thread nD τ).loc main_arg2)) Gen.slices_S16_S15_1⟩, ⟨S1, v⟩]
        Gen.concatenates_S15_S1_S16_d0) (amax_eq _)), (h c).2.2⟩)
    (run m ρ)

end Cert.QuantXReferenceIdeal.Value

/-- Kernel and reference agree on the codes and on the rolled history. -/
theorem Cert.Pair.QuantX : Cert.algebraic_QuantXIdeal_QuantXReferenceIdeal := by
  pair_intro
  · run_from Cert.QuantXIdeal.Value.spec_run m g
  · run_from Cert.QuantXReferenceIdeal.Value.spec_run m' g'

end
-- ==== Proof.QuantWPayloads.lean ====
/-
  What the payloads of the quantiser call of `w` compute: the codes of a column block, and the 8 by 128 lanes into which the absolute
  values of a column block are taken by maximum. Each maximum is stated by its upper bounds.
-/
module

public import proofs.«01_k».proof.Proof.Gen.QuantWIdeal.Run
public import Idealize.ShloMosaic.Lib.Pipeline.Value
public import Idealize.ShloMosaic.Lib.Pipeline.ValueKit
public import Idealize.ShloMosaic.Lib.Pipeline.ReadBack
public import proofs.«01_k».proof.Proof.AmaxSpec

@[expose] public section

set_option maxRecDepth 16384

noncomputable section

namespace Cert.QuantWIdeal.Value

open Cert.QuantWIdeal Cert.QuantWIdeal.Gen
open Idealize.ShloMosaic Idealize.ShloMosaic.TcCoe Idealize.SL.Sem
open Idealize.ShloMosaic.Pipeline (Dat)

/-- The code payload multiplies by one number and clips. -/
theorem codes_apply (v : S1536x512.Idx → EReal) (s : EReal) (j : S1536x512.Idx) :
    k0_pay1 (F := Ideal) v s j
      = Cert.Spec.codes (Ideal.ofBits .f32 0xC3E00000#32) (Ideal.ofBits .f32 0x43E00000#32) s v j := by
  pointwise [k0_pay1, Cert.Spec.codes]

/-- The block that the running maximum starts from is zero everywhere. -/
theorem zero_apply (j : S8x128.Idx) : k0_pay2 (F := Ideal) j = 0 := by pointwise [k0_pay2]

/-- The maximum over the rows of one block with one residue modulo 8. -/
def rowMax (v : S1536x512.Idx → EReal) : S8x512.Idx → EReal :=
  multiReduction (F := Ideal) (φ := .f32) .maximumf [0] S8x512 (shapeCast S192x8x512 (absf (F := Ideal) (φ := .f32) v) shapeCasts_S1536x512_S192x8x512) 0xFF800000#32 reduces_S192x8x512_S8x512 (.inl rfl) rfl

/-- `rowMax` is at most `b` exactly when every absolute value it is taken over is. -/
theorem rowMax_le (v : S1536x512.Idx → EReal) (i : S8x512.Idx) (b : EReal) :
    rowMax v i ≤ b ↔ ∀ k : S1536x512.Idx, (k 0).val % 8 = (i 0).val → (k 1).val = (i 1).val → Cert.Spec.abs (v k) ≤ b := by
  pointwise [rowMax]
  have hbot : Ideal.ofBits FTy.f32 4286578688#32 = ⊥ := by simp [Ideal.ofBits, Ideal.ieee]
  rw [hbot, Cert.Spec.fold_filter_le]
  have hi := (i 0).isLt
  refine ⟨fun H k h0 h1 => ?_, fun H r _ => H _ ?_ rfl⟩
  · have := H ⟨(k 0).val / 8, by have := (k 0).isLt; simp at this; omega⟩ (Finset.mem_univ _)
    refine (le_of_eq (congrArg (fun q => Cert.Spec.abs (v q)) ?_)).trans this
    ext d
    match d with
    | 0 => show (k 0).val = _; simp; omega
    | 1 => exact h1
  · show (r.val * 8 + (i 0).val) % 8 = _
    simp at hi
    omega

/-- A lane of the payload that takes a block into the running maximum `p` is at most `b` exactly when that lane of `p` and every absolute
    value of the block in that lane are. -/
theorem lane_le (v : S1536x512.Idx → EReal) (p : S8x128.Idx → EReal) (j : S8x128.Idx) (b : EReal) :
    k0_pay3 (F := Ideal) v p j ≤ b ↔ p j ≤ b
      ∧ ∀ k : S1536x512.Idx, (k 0).val % 8 = (j 0).val → (k 1).val % 128 = (j 1).val → Cert.Spec.abs (v k) ≤ b := by
  have e : k0_pay3 (F := Ideal) v p j ≤ b ↔ p j ≤ b ∧ ∀ i : S8x512.Idx, (i 0).val = (j 0).val → (i 1).val % 128 = (j 1).val → rowMax v i ≤ b := by
    unfold k0_pay3
    dsimp only
    generalize hr : rowMax v = r
    unfold rowMax at hr
    rw [hr]
    pointwise
    simp only [max_le_iff]
    have hj := (j 1).isLt
    simp at hj
    refine and_congr_right fun _ => ?_
    constructor
    · rintro ⟨⟨⟨h0, h1⟩, h2⟩, h3⟩ i e0 e1
      have key : ∀ (n : ℕ) (hn : n + (j 1).val < 512), (i 1).val = n + (j 1).val → r (ix2 (j 0) ⟨n + (j 1).val, hn⟩) ≤ b → r i ≤ b := by
        intro n hn hi hr
        refine (le_of_eq (congrArg r ?_)).trans hr
        ext d
        match d with
        | 0 => exact e0
        | 1 => exact hi
      have hi := (i 1).isLt
      simp at hi
      obtain ⟨q, hq⟩ : ∃ q, q = (i 1).val / 128 := ⟨_, rfl⟩
      have hq' : q < 4 := by omega
      interval_cases q
      · exact key 0 (by omega) (by omega) (by simpa using h0)
      · exact key 128 (by omega) (by omega) h1
      · exact key 256 (by omega) (by omega) h2
      · exact key 384 (by omega) (by omega) h3
    · intro H
      refine ⟨⟨⟨?_, ?_⟩, ?_⟩, ?_⟩ <;>
        exact H _ rfl (by show (_ : ℕ) % 128 = _; simp; try omega)
  rw [e]
  refine and_congr_right fun _ => ⟨fun H k h0 h1 => ?_, fun H i h0 h1 => (rowMax_le v i b).mpr fun k k0 k1 => H k (by omega) (by omega)⟩
  exact (rowMax_le v (ix2 (j 0) (k 1)) b).mp (H _ rfl h1) k h0 rfl

/-- The closing payload is at most `b` exactly when every lane is. -/
theorem all_le (v : S8x128.Idx → EReal) (j : S8x128.Idx) (b : EReal) :
    k0_pay4 (F := Ideal) v j ≤ b ↔ ∀ i, v i ≤ b := by
  haveI : Subsingleton S1.Idx := ⟨fun a b => funext fun d => match d with | 0 => Subsingleton.elim (α := Fin 1) _ _⟩
  have H := fun k => Cert.Spec.multiReduction_all_le (t := S1) (φ := .f32) (axes := [1, 2]) v shapeCasts_S8x128_S1x8x128 0xFF800000#32
    reduces_S1x8x128_S1 (.inl rfl) rfl (by simp [Ideal.ofBits, Ideal.ieee]) k b
  unfold k0_pay4
  simp only [broadcast, extractAt, shapeCast.eq_1 S1x1x1]
  exact H _

end Cert.QuantWIdeal.Value

end
-- ==== Proof.QuantWKernel.lean ====
/-
  What the quantiser call of `w` computes. Its grid walks the 33 column blocks of `w`: each one writes the codes of its columns
  and takes the absolute values of its columns into a running maximum, kept in 8 by 128 lanes; the last one writes the
  largest lane. So the results are the codes `Cert.Spec.codes` of `w` and the largest absolute value `Cert.Spec.amax`.
-/
module

public import proofs.«01_k».proof.Proof.Gen.QuantWIdeal.Run
public import Idealize.ShloMosaic.Lib.Pipeline.Value
public import Idealize.ShloMosaic.Lib.Pipeline.ValueKit
public import Idealize.ShloMosaic.Lib.Pipeline.ReadBack
public import proofs.«01_k».proof.Proof.QuantWPayloads

@[expose] public section

set_option maxRecDepth 16384

noncomputable section

namespace Cert.QuantWIdeal.Value

open Cert.QuantWIdeal Cert.QuantWIdeal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at each grid point: point `t` is column block `t`. -/
theorem idx : ∀ t : Fin cfg0.N, win0_0.index t = ![0, 0] ∧ win0_1.index t = ![0, t.val]
    ∧ win0_2.index t = ![0, t.val] ∧ win0_3.index t = ![0, 0] :=
  (by decide +kernel : ∀ t : Fin grid0.N, _)

/-- The scale table at grid point `t`. -/
abbrev sBlk (c : Dev nD) (t : Fin cfg0.N) : S8x128.Idx → EReal := iblk m c 0 t
/-- The column block of `w` at grid point `t`. -/
abbrev wBlk (c : Dev nD) (t : Fin cfg0.N) : S1536x512.Idx → EReal := iblk m c 1 t

/-- At every point the codes written are those of the point's columns. -/
theorem codes_at (c : Dev nD) (t : Fin cfg0.N) (j : S1536x512.Idx) :
    (outsAt0 m c t.val t.isLt).1 j
      = Cert.Spec.codes (Ideal.ofBits .f32 0xC3E00000#32) (Ideal.ofBits .f32 0x43E00000#32) (sBlk m c t (ix2 4 0)) (wBlk m c t) j := by
  by_cases h0 : t.val % 33 = 0
  · rw [outsAt0_A m c t h0 (by omega)]
    frame_out
    rw [codes_apply]
    pointwise
  · by_cases h1 : t.val % 33 = 32
    · rw [outsAt0_C m c t h0 h1]
      frame_out
      rw [codes_apply]
      pointwise
    · rw [outsAt0_B m c t h0 h1]
      frame_out
      rw [codes_apply]
      pointwise

/-- After the first point the running maximum has taken in zero and the first block. -/
theorem run_first (c : Dev nD) (t : Fin cfg0.N) (h0 : t.val % 33 = 0) (j : S8x128.Idx) :
    (outsAt0 m c t.val t.isLt).2.2 j = k0_pay3 (F := Ideal) (wBlk m c t) (k0_pay2 (F := Ideal)) j := by
  rw [outsAt0_A m c t h0 (by omega)]
  frame_out

/-- At every later point it takes in the point's block. -/
theorem run_next (c : Dev nD) (t : Fin cfg0.N) (h0 : ¬t.val % 33 = 0) (j : S8x128.Idx) :
    (outsAt0 m c t.val t.isLt).2.2 j
      = k0_pay3 (F := Ideal) (wBlk m c t) (outsAt0 m c (t.val - 1) (Nat.lt_of_le_of_lt (Nat.sub_le _ _) t.isLt)).2.2 j := by
  by_cases h1 : t.val % 33 = 32
  · rw [outsAt0_C m c t h0 h1]
    frame_out
    simp only [read_unread_whole]
  · rw [outsAt0_B m c t h0 h1]
    frame_out
    simp only [read_unread_whole]

/-- The last point writes the largest lane of the running maximum. -/
theorem amax_last (c : Dev nD) (t : Fin cfg0.N) (h1 : t.val % 33 = 32) (j : S8x128.Idx) :
    (outsAt0 m c t.val t.isLt).2.1 j = k0_pay4 (F := Ideal) (outsAt0 m c t.val t.isLt).2.2 j := by
  rw [outsAt0_C m c t (by omega) h1]
  frame_out

/-- The absolute values of block `t` in lane `j` are at most `b`. -/
def LaneLe (c : Dev nD) (t : Fin cfg0.N) (j : S8x128.Idx) (b : EReal) : Prop :=
  ∀ k : S1536x512.Idx, (k 0).val % 8 = (j 0).val → (k 1).val % 128 = (j 1).val → Cert.Spec.abs (wBlk m c t k) ≤ b

/-- After point `n` a lane of the running maximum is at most `b` exactly when zero and every absolute value taken in so far are. -/
theorem run_le (c : Dev nD) (j : S8x128.Idx) (b : EReal) : ∀ (n : ℕ) (h : n < cfg0.N),
    ((outsAt0 m c n h).2.2 j ≤ b ↔ 0 ≤ b ∧ ∀ (s : ℕ) (hs : s ≤ n), LaneLe m c ⟨s, Nat.lt_of_le_of_lt hs h⟩ j b)
  | 0, h => by
    have e := run_first m c ⟨0, h⟩ rfl j
    dsimp only at e
    rw [e, lane_le, zero_apply]
    refine and_congr_right fun _ => ⟨fun H s hs => ?_, fun H => H 0 le_rfl⟩
    obtain rfl : s = 0 := by omega
    exact H
  | n + 1, h => by
    have hN := lt_of_lt_of_eq h (show cfg0.N = 33 from N_0)
    have e := run_next m c ⟨n + 1, h⟩ (by dsimp only; omega) j
    dsimp only [Nat.add_sub_cancel] at e
    rw [e, lane_le]
    refine (and_congr_left' (run_le c j b n _)).trans ?_
    rw [and_assoc]
    refine and_congr_right fun _ => ⟨fun H s hs => ?_, fun H => ⟨fun s hs => H s (by omega), H (n + 1) le_rfl⟩⟩
    by_cases hsn : s = n + 1
    · subst hsn; exact H.2
    · exact H.1 s (by omega)

/-- The call's first result after the run is the array of codes of its second argument. -/
theorem final_codes (c : Dev nD) : (dats m 0 c).arrAt 2 cfg0.N
    = Cert.Spec.codes (Ideal.ofBits .f32 0xC3E00000#32) (Ideal.ofBits .f32 0x43E00000#32)
        ((m ((c : Thread nD τ).loc main_arg0) : S8x128.Idx → EReal) (ix2 4 0)) (m ((c : Thread nD τ).loc main_arg1)) := by
  refine (dats m 0 c).arrAt_eq_of_covers 2 _ (by decide +kernel) fun t hf y => ?_
  blk_simp
  rw [after0_2, codes_at]
  unfold Cert.Spec.codes
  blk_point [iblk, V, idx t]

/-- The call's second result after the run is the largest absolute value of its second argument, everywhere. -/
theorem final_amax (c : Dev nD) : (dats m 0 c).arrAt 3 cfg0.N
    = fun _ => Cert.Spec.amax (m ((c : Thread nD τ).loc main_arg1) : S1536x16896.Idx → EReal) := by
  refine (dats m 0 c).arrAt_eq_of_covers 3 _ (by decide +kernel) fun t hf y => ?_
  blk_simp
  refine eq_of_forall_ge_iff (α := EReal) fun b => ?_
  rw [after0_3, amax_last m c t ((flush0_3 t).mp hf)]
  have hN : cfg0.N = 33 := N_0
  have ht : t.val = 32 := by have := (flush0_3 t).mp hf; have := lt_of_lt_of_eq t.isLt hN; omega
  rw [all_le, Cert.Spec.amax_le]
  have hx : ∀ (s : Fin cfg0.N) (k : S1536x512.Idx), wBlk m c s k
      = (m ((c : Thread nD τ).loc main_arg1) : S1536x16896.Idx → EReal)
          (ix2 (k 0) ⟨s.val * 512 + (k 1).val, by have := lt_of_lt_of_eq s.isLt hN; have := (k 1).isLt; simp at this; omega⟩) := fun s k => by
    blk_point [iblk, V, idx s]
  constructor
  · intro H i
    have hi := (i 0).isLt
    simp at hi
    have hi1 := (i 1).isLt
    simp at hi1
    have := ((run_le m c (ix2 ⟨(i 0).val % 8, by omega⟩ ⟨(i 1).val % 128, by omega⟩) b t.val t.isLt).mp (H _)).2
      ((i 1).val / 512) (by omega) (ix2 (i 0) ⟨(i 1).val % 512, by omega⟩) rfl (by show (i 1).val % 512 % 128 = (i 1).val % 128; omega)
    rw [hx] at this
    refine (le_of_eq (congrArg (fun q => Cert.Spec.abs (m ((c : Thread nD τ).loc main_arg1) q)) ?_)).trans this
    ext d
    match d with
    | 0 => rfl
    | 1 => show (i 1).val = (i 1).val / 512 * 512 + (i 1).val % 512; omega
  · intro H j
    rw [run_le]
    refine ⟨(Cert.Spec.abs_nonneg _).trans (H (ix2 0 0)), fun s hs k _ _ => ?_⟩
    rw [hx]
    exact H _

end Cert.QuantWIdeal.Value

end
-- ==== Proof.QuantWReference.lean ====
/-
  What the reference of the quantiser call of `w` computes: the codes of the whole array, and the host's maximum of its absolute
  values.
-/
module

public import proofs.«01_k».proof.Proof.Gen.QuantWReferenceIdeal.Run
public import Idealize.ShloMosaic.Lib.Pipeline.ValueKit
public import Idealize.ShloMosaic.Lib.Pipeline.ReadBack
public import proofs.«01_k».proof.Proof.AmaxSpec

@[expose] public section

set_option maxRecDepth 16384

noncomputable section

namespace Cert.QuantWReferenceIdeal.Value

open Cert.QuantWReferenceIdeal Cert.QuantWReferenceIdeal.Gen
open Idealize.ShloMosaic Idealize.ShloMosaic.TcCoe Idealize.SL.Sem
open Idealize.ShloMosaic.Pipeline (Dat)

variable (m : (ℓ : Loc nD τ sig) → Buf (Elt Ideal) ℓ)

/-- At the one grid point every window starts at the origin of its array. -/
theorem idx : ∀ t : Fin cfg0.N, win0_0.index t = ![0, 0] ∧ win0_1.index t = ![0, 0] ∧ win0_2.index t = ![0, 0] :=
  (by decide +kernel : ∀ t : Fin grid0.N, _)

/-- The region's result array after the run is the array of codes of the second argument. -/
theorem final_codes (c : Dev nD) : reg_main_v0 m c
    = Cert.Spec.codes (Ideal.ofBits .f32 0xC3E00000#32) (Ideal.ofBits .f32 0x43E00000#32)
        ((m ((c : Thread nD τ).loc main_arg0) : S8x128.Idx → EReal) (ix2 4 0)) (m ((c : Thread nD τ).loc main_arg1)) := by
  refine (dats m 0 c).arrAt_eq_of_after_last 2 t0_0 (by decide +kernel) _ fun j => ?_
  blk_simp
  rw [after0_2]
  unfold outsAt0
  frame_out
  simp only [read_unread_whole]
  pointwise [k0_pay1, Cert.Spec.codes]
  blk_point [iblk, V, idx t0_0]

/-- The host's maximum, as an array of one entry, is the largest absolute value. -/
theorem amax_eq (v : S1536x16896.Idx → EReal) :
    (broadcastInDim S1 ![] bcast_S_S1 (Host.reduce (FloatOps.maximumf (F := Ideal) (φ := .f32)) (Host.absf (F := Ideal) (φ := .f32) v) (constant (F := Ideal) S_ .f32 0xFF800000#32) reducesTo_S1536x16896_S_d0_1 h_S_) : S1.Idx → EReal)
      = fun _ => Cert.Spec.amax v := by
  haveI : Subsingleton S_.Idx := ⟨fun a b => funext fun d => d.elim0⟩
  funext j
  refine eq_of_forall_ge_iff fun b => ?_
  refine Iff.trans ?_ (Cert.Spec.amax_le v b).symm
  exact Cert.Spec.hostReduce_all_le (t := S_) (φ := .f32) (axes := _) (Host.absf (F := Ideal) (φ := .f32) v) _ _ _
    (fun i => by simp [constant, Ideal.ofBits, Ideal.ieee]) _ b

end Cert.QuantWReferenceIdeal.Value

end
-- ==== Proof.QuantWPair.lean ====
/-
  THE PAIR OF THE WEIGHTS' QUANTISER: kernel and reference, each run in the terms of the specification, end with equal codes and an
  equal rolled history.
-/
module

public import proofs.«01_k».proof.Defs
public import proofs.«01_k».proof.Proof.QuantWKernel
public import proofs.«01_k».proof.Proof.QuantWReference
public import Idealize.ShloMosaic.Lib.Claim

@[expose] public section

noncomputable section

open Idealize.ShloMosaic Idealize.SL.Sem

namespace Cert.QuantWIdeal.Value

variable (m : (ℓ : Loc nD τ sig) → Buf (Elt Ideal) ℓ) (ρ : Dev nD → PrngReg)

/-- The one entry that is put at the end of the history. -/
theorem entry_eq (c : Dev nD) : (shapeCast S1 (extractStridedSlice S1x1 ![0, 0] (reg_main_v0_1 m c) Gen.slices_S8x128_S1x1_0_0) Gen.shapeCasts_S1x1_S1 : S1.Idx → EReal)
    = fun _ => Cert.Spec.amax (m ((c.tc : Thread nD τ).loc main_arg1) : S1536x16896.Idx → EReal) := by
  funext i
  exact congrFun (final_amax m c) _

/-- The kernel's run: its codes and its rolled history, in the terms of the specification. -/
theorem spec_run : θ_run defs (onTc (τ := τ) (main (F := Ideal))) ⟨m, fun _ => 0, ρ⟩ fun r => ∀ c : Dev nD,
    r.2.mem ((c.tc : Thread nD τ).loc main_v0_0)
        = Cert.Spec.codes (Ideal.ofBits .f32 0xC3E00000#32) (Ideal.ofBits .f32 0x43E00000#32)
            ((m ((c.tc : Thread nD τ).loc main_arg0) : S8x128.Idx → EReal) (ix2 4 0)) (m ((c.tc : Thread nD τ).loc main_arg1))
      ∧ r.2.mem ((c.tc : Thread nD τ).loc main_v4)
        = Cert.Spec.rolled Gen.slices_S16_S15_1 Gen.concatenates_S15_S1_S16_d0 (m ((c.tc : Thread nD τ).loc main_arg2))
            (Cert.Spec.amax (m ((c.tc : Thread nD τ).loc main_arg1) : S1536x16896.Idx → EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_codes m c), (h c).2.1.trans (congrArg (fun v : S1.Idx → EReal => concatenate S16 0 [⟨S15, extractStridedSlice S15 ![1] (m ((c.tc : Thread nD τ).loc main_arg2)) Gen.slices_S16_S15_1⟩, ⟨S1, v⟩]
        Gen.concatenates_S15_S1_S16_d0) (entry_eq m c)), (h c).2.2⟩)
    (run m ρ)

end Cert.QuantWIdeal.Value

namespace Cert.QuantWReferenceIdeal.Value

variable (m : (ℓ : Loc nD τ sig) → Buf (Elt Ideal) ℓ) (ρ : Dev nD → PrngReg)

/-- The reference's run, in the same terms. -/
theorem spec_run : θ_run defs (onTc (τ := τ) (main (F := Ideal))) ⟨m, fun _ => 0, ρ⟩ fun r => ∀ c : Dev nD,
    r.2.mem ((c.tc : Thread nD τ).loc main_v0)
        = Cert.Spec.codes (Ideal.ofBits .f32 0xC3E00000#32) (Ideal.ofBits .f32 0x43E00000#32)
            ((m ((c.tc : Thread nD τ).loc main_arg0) : S8x128.Idx → EReal) (ix2 4 0)) (m ((c.tc : Thread nD τ).loc main_arg1))
      ∧ r.2.mem ((c.tc : Thread nD τ).loc main_v5)
        = Cert.Spec.rolled Gen.slices_S16_S15_1 Gen.concatenates_S15_S1_S16_d0 (m ((c.tc : Thread nD τ).loc main_arg2))
            (Cert.Spec.amax (m ((c.tc : Thread nD τ).loc main_arg1) : S1536x16896.Idx → EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_codes m c), (h c).2.1.trans (congrArg (fun v : S1.Idx → EReal => concatenate S16 0 [⟨S15, extractStridedSlice S15 ![1] (m ((c.tc : Thread nD τ).loc main_arg2)) Gen.slices_S16_S15_1⟩, ⟨S1, v⟩]
        Gen.concatenates_S15_S1_S16_d0) (amax_eq _)), (h c).2.2⟩)
    (run m ρ)

end Cert.QuantWReferenceIdeal.Value

/-- Kernel and reference agree on the codes and on the rolled history. -/
theorem Cert.Pair.QuantW : Cert.algebraic_QuantWIdeal_QuantWReferenceIdeal := by
  pair_intro
  · run_from Cert.QuantWIdeal.Value.spec_run m g
  · run_from Cert.QuantWReferenceIdeal.Value.spec_run m' g'

end
-- ==== Proof.ScalesSpec.lean ====
/-
  The power-of-two scale of a history, on words: the exponent of the largest entry over the format's maximum, and the f32
  word of two to that exponent. Kernel and reference print both differently; here both spellings are stated and compared.
-/
module

public import Idealize.ShloMosaic.PureOps.BitExact
public import Mathlib.Tactic.IntervalCases

@[expose] public section

noncomputable section

namespace Cert.Spec

open Idealize.ShloMosaic

/-- The exponent that the kernel reads from a word: its exponent field less 126, and 0 where the field is 0 or 255, or where the
    flag `z` is set. -/
def kernelExp (z : BitVec 1) (f : BitVec 32) : BitVec 32 :=
  Scalar.select (IntOp.ori (IntOp.ori (IntOp.cmpi .eq f 0#32) (IntOp.cmpi .eq f 255#32)) z) 0#32 (IntOp.subi f 126#32)

/-- The same exponent as the reference prints it. -/
def referenceExp (z : BitVec 1) (f : BitVec 32) : BitVec 32 :=
  Scalar.select z 0#32 (Scalar.select (IntOp.ori (IntOp.cmpi .eq f 255#32) (IntOp.cmpi .eq f 0#32)) 0#32 (IntOp.subi f 126#32))

/-- The exponent field as the kernel reads it. -/
def kernelField (w : BitVec 32) : BitVec 32 := IntOp.andi (IntOp.shrsi .vector w 23#32) 255#32

/-- A word with a subnormal one read as the zero of its sign. -/
def flushed (w : BitVec 32) : BitVec 32 :=
  Scalar.select (IntOp.cmpi .eq (IntOp.andi w 2139095040#32) 0#32) (IntOp.andi w 2147483648#32) w

/-- The exponent field as the reference reads it. -/
def referenceField (w : BitVec 32) : BitVec 32 := IntOp.andi (IntOp.shrui .scalar (flushed w) 23#32) 255#32

/-- The word of two to the `e`, as the kernel assembles it. -/
def kernelPow (e : BitVec 32) : BitVec 32 :=
  let k := IntOp.addi e 127#32
  Scalar.select (IntOp.cmpi .sle k 0#32) 0#32 (Scalar.select (IntOp.cmpi .sge k 255#32) 2139095040#32 (IntOp.shli .vector k 23#32))

/-- The word `one` times two to the `e`, as the reference assembles it; it is used at the word of one. -/
def powOf (one e : BitVec 32) : BitVec 32 :=
  let sign := IntOp.andi one 2147483648#32
  let field := IntOp.andi (IntOp.shrui .scalar one 23#32) 255#32
  let fraction := IntOp.andi one 8388607#32
  let k := IntOp.addi field (IntOp.minsi (IntOp.maxsi e 4294966784#32) 512#32)
  Scalar.select (IntOp.cmpi .eq field 255#32) one
    (Scalar.select (IntOp.cmpi .eq field 0#32) sign
      (Scalar.select (IntOp.cmpi .sle k 0#32) sign
        (Scalar.select (IntOp.cmpi .sge k 255#32) (IntOp.ori sign 2139095040#32)
          (IntOp.ori (IntOp.ori sign (IntOp.shli .scalar k 23#32)) fraction))))

/-- The word of two to the `e`, as the reference assembles it from the word of one. -/
def referencePow (e : BitVec 32) : BitVec 32 := powOf (flushed 0x3F800000#32) e

/-- The exponent field of a word as a number. -/
theorem kernelField_eq (w : BitVec 32) : kernelField w = BitVec.ofNat 32 (w.toNat / 2 ^ 23 % 256) := by
  have e : kernelField w = (w >>> 23) &&& 255#32 := by
    show (w.sshiftRight' 23#32) &&& 255#32 = _
    ext i hi
    interval_cases i <;> simp [BitVec.getElem_sshiftRight]
  rw [e]
  apply BitVec.eq_of_toNat_eq
  rw [BitVec.toNat_and, BitVec.toNat_ushiftRight, BitVec.toNat_ofNat, BitVec.toNat_ofNat, Nat.shiftRight_eq_div_pow]
  show _ &&& (2 ^ 8 - 1) = _
  rw [Nat.and_two_pow_sub_one_eq_mod]
  have := Nat.mod_lt (w.toNat / 2 ^ 23) (show 2 ^ 8 > 0 by decide)
  omega

/-- Both read the same field. -/
theorem field_eq (w : BitVec 32) : referenceField w = kernelField w := by
  have e : kernelField w = (w >>> 23) &&& 255#32 := by
    show (w.sshiftRight' 23#32) &&& 255#32 = _
    ext i hi
    interval_cases i <;> simp [BitVec.getElem_sshiftRight]
  rw [e]
  show ((flushed w) >>> (23#32)) &&& 255#32 = _
  unfold flushed Scalar.select IntOp.cmpi IntOp.andi
  by_cases h : w &&& 2139095040#32 = 0#32
  · rw [if_pos (by simp [h])]
    have hb : ∀ i (hi : i < 32), (w &&& 2139095040#32)[i] = false := fun i hi => by simp only [h]; simp
    ext i hi
    rcases Nat.lt_or_ge i 8 with h8 | h8
    · have := hb (i + 23) (by omega)
      interval_cases i <;> simp at this ⊢ <;> exact this
    · interval_cases i <;> simp
  · have h' : (w &&& 2139095040#32 == 0#32) = false := by simpa using h
    rw [if_neg (by simp [h'])]
    rfl

/-- On every field the two exponents, and the two words of the scale and of its inverse, agree. -/
theorem pow_field : ∀ (z : BitVec 1) (f : Fin 256),
    kernelPow (kernelExp z (BitVec.ofNat 32 f)) = referencePow (referenceExp z (BitVec.ofNat 32 f))
      ∧ kernelPow (IntOp.subi 0#32 (kernelExp z (BitVec.ofNat 32 f))) = referencePow (IntOp.subi 0#32 (referenceExp z (BitVec.ofNat 32 f))) := by
  decide +kernel

/-- The kernel's word of the scale is the reference's. -/
theorem scale_eq (z : BitVec 1) (w : BitVec 32) :
    kernelPow (kernelExp z (kernelField w)) = referencePow (referenceExp z (referenceField w)) := by
  rw [field_eq, kernelField_eq]
  exact (pow_field z ⟨_, Nat.mod_lt _ (by decide)⟩).1

/-- The kernel's word of the inverse scale is the reference's. -/
theorem inverse_eq (z : BitVec 1) (w : BitVec 32) :
    kernelPow (IntOp.subi 0#32 (kernelExp z (kernelField w))) = referencePow (IntOp.subi 0#32 (referenceExp z (referenceField w))) := by
  rw [field_eq, kernelField_eq]
  exact (pow_field z ⟨_, Nat.mod_lt _ (by decide)⟩).2

/-- The largest entry of a history of sixteen words. -/
def top (x : (⟨2, ![1, 16]⟩ : Shape).Idx → Bits .f32) : Bits .f32 :=
  extractAt (s := ⟨3, ![1, 1, 1]⟩) ![0, 0, 0] (shapeCast ⟨3, ![1, 1, 1]⟩
    (multiReduction (F := Bits) (φ := .f32) .maximumf [1, 2] ⟨1, ![1]⟩
      (shapeCast ⟨3, ![1, 1, 16]⟩ (shapeCast ⟨2, ![1, 16]⟩ x (by decide)) (by decide)) 0xFF800000#32))

/-- The scale of a history, from whether its largest entry is zero and from the word of that entry times `c`. -/
def scale (x : (⟨2, ![1, 16]⟩ : Shape).Idx → Bits .f32) (c : BitVec 32) : BitVec 32 :=
  kernelPow (kernelExp (Bits.cmpf32 .oeq (top x) 0#32) (kernelField (Bits.mulf32 (top x) c)))

/-- The inverse scale of a history. -/
def inverse (x : (⟨2, ![1, 16]⟩ : Shape).Idx → Bits .f32) (c : BitVec 32) : BitVec 32 :=
  kernelPow (IntOp.subi 0#32 (kernelExp (Bits.cmpf32 .oeq (top x) 0#32) (kernelField (Bits.mulf32 (top x) c))))

/-- The value of one row of a table of eight rows, of which the last two are zero. -/
def pick (a0 a1 a2 a3 a4 a5 : BitVec 32) (r : ℕ) : BitVec 32 :=
  match r with
  | 0 => a0 | 1 => a1 | 2 => a2 | 3 => a3 | 4 => a4 | 5 => a5 | _ => 0#32

/-- The table of the scales and the inverse scales, one in each of its first six rows, the rest zero; `r` is the row. -/
def entry (hx hw hdy : (⟨2, ![1, 16]⟩ : Shape).Idx → Bits .f32) (r : ℕ) : BitVec 32 :=
  pick (scale hx 0x3B124925#32) (scale hw 0x3B124925#32) (scale hdy 0x37924925#32)
    (inverse hx 0x3B124925#32) (inverse hw 0x3B124925#32) (inverse hdy 0x37924925#32) r

/-- Six selections by the row, the last row's outermost. -/
theorem nest_up (a0 a1 a2 a3 a4 a5 : BitVec 32) (r : ℕ) (h : r < 8) :
    Scalar.select (IntOp.cmpi .eq (BitVec.ofNat 32 r) 5#32) a5 (Scalar.select (IntOp.cmpi .eq (BitVec.ofNat 32 r) 4#32) a4
      (Scalar.select (IntOp.cmpi .eq (BitVec.ofNat 32 r) 3#32) a3 (Scalar.select (IntOp.cmpi .eq (BitVec.ofNat 32 r) 2#32) a2
        (Scalar.select (IntOp.cmpi .eq (BitVec.ofNat 32 r) 1#32) a1 (Scalar.select (IntOp.cmpi .eq (BitVec.ofNat 32 r) 0#32) a0 0#32)))))
      = pick a0 a1 a2 a3 a4 a5 r := by
  interval_cases r <;> simp [Scalar.select, IntOp.cmpi, pick]

/-- Six selections by the row, the first row's outermost. -/
theorem nest_down (a0 a1 a2 a3 a4 a5 : BitVec 32) (r : ℕ) (h : r < 8) :
    Scalar.select (IntOp.cmpi .eq (BitVec.ofNat 32 r) 0#32) a0 (Scalar.select (IntOp.cmpi .eq (BitVec.ofNat 32 r) 1#32) a1
      (Scalar.select (IntOp.cmpi .eq (BitVec.ofNat 32 r) 2#32) a2 (Scalar.select (IntOp.cmpi .eq (BitVec.ofNat 32 r) 3#32) a3
        (Scalar.select (IntOp.cmpi .eq (BitVec.ofNat 32 r) 4#32) a4 (Scalar.select (IntOp.cmpi .eq (BitVec.ofNat 32 r) 5#32) a5 0#32)))))
      = pick a0 a1 a2 a3 a4 a5 r := by
  interval_cases r <;> simp [Scalar.select, IntOp.cmpi, pick]

end Cert.Spec

end
-- ==== Proof.ScalesKernel.lean ====
/-
  What the call that makes the scales computes: the table of the three scales and their inverses.
-/
module

public import proofs.«01_k».proof.Proof.Gen.Scales.Value
public import Idealize.ShloMosaic.Lib.Pipeline.ValueKit
public import Idealize.ShloMosaic.Lib.Pipeline.ReadBack
public import proofs.«01_k».proof.Proof.ScalesSpec

@[expose] public section

set_option maxRecDepth 16384

noncomputable section

namespace Cert.Scales.Value

open Cert.Scales Cert.Scales.Gen
open Idealize.ShloMosaic Idealize.ShloMosaic.TcCoe Idealize.SL.Sem
open Idealize.ShloMosaic.Pipeline (Dat)

variable (m : (ℓ : Loc nD τ sig) → Buf (Elt Bits) ℓ)

/-- At the one grid point every window starts at the origin of its array. -/
theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

/-- The row number at an index of the table. -/
theorem row_eq (j : S8x128.Idx) : iota .tc S8x128 32 [0] iota_S8x128_d0_w32 j = BitVec.ofNat 32 (j 0).val := by
  simp [iota]

/-- The stored table at an index is the entry of its row. -/
theorem table_eq (hx hw hdy : Vec Bits S1x16 .f32) (j : S8x128.Idx) :
    k0_pay1 (F := Bits) (k0_pay3 hx) (k0_pay5 (F := Bits) (k0_pay4 hx) 127#32) (k0_pay9 (F := Bits) (k0_pay7 hw) k0_pay8)
        (k0_pay10 (F := Bits) (k0_pay6 hw)) (k0_pay15 (k0_pay11 hdy) (k0_pay12 hdy) (k0_pay13 hdy) 255#32)
        (k0_pay16 (k0_pay11 hdy) (k0_pay12 hdy) (k0_pay13 hdy) 255#32) (iota .tc S8x128 32 [0] iota_S8x128_d0_w32) (k0_pay17 (F := Bits)) k0_pay18 j
      = Cert.Spec.entry hx hw hdy (j 0).val := by
  refine Eq.trans ?_ (Cert.Spec.nest_up _ _ _ _ _ _ _ (j 0).isLt)
  rw [← row_eq]
  rfl

set_option maxHeartbeats 1000000 in
/-- The table after the run, from the three histories. -/
theorem final (c : Dev nD) : (dats m 0 c).arrAt 3 cfg0.N
    = fun j : S8x128.Idx => Cert.Spec.entry (shapeCast S1x16 (m ((c : Thread nD τ).loc main_arg0)) shapeCasts_S16_S1x16) (shapeCast S1x16 (m ((c : Thread nD τ).loc main_arg1)) shapeCasts_S16_S1x16) (shapeCast S1x16 (m ((c : Thread nD τ).loc main_arg2)) shapeCasts_S16_S1x16) (j 0).val := by
  refine (dats m 0 c).arrAt_eq_of_after_last 3 t0_0 (by decide +kernel) _ fun j => ?_
  have e0 : iblk m c 0 t0_0 = shapeCast S1x16 (m ((c : Thread nD τ).loc main_arg0)) shapeCasts_S16_S1x16 := by
    funext i
    blk_point [iblk, V, idx t0_0]
  have e1 : iblk m c 1 t0_0 = shapeCast S1x16 (m ((c : Thread nD τ).loc main_arg1)) shapeCasts_S16_S1x16 := by
    funext i
    blk_point [iblk, V, idx t0_0]
  have e2 : iblk m c 2 t0_0 = shapeCast S1x16 (m ((c : Thread nD τ).loc main_arg2)) shapeCasts_S16_S1x16 := by
    funext i
    blk_point [iblk, V, idx t0_0]
  blk_simp
  rw [after0_3]
  unfold_out out0_3
  frame_out
  rw [e0, e1, e2]
  exact table_eq _ _ _ j

end Cert.Scales.Value

end
-- ==== Proof.ScalesReference.lean ====
/-
  What the reference of the call that makes the scales computes: the table of the three scales and their inverses.
-/
module

public import proofs.«01_k».proof.Proof.Gen.ScalesReference.Value
public import Idealize.ShloMosaic.Lib.Pipeline.ValueKit
public import Idealize.ShloMosaic.Lib.Pipeline.ReadBack
public import proofs.«01_k».proof.Proof.ScalesSpec

@[expose] public section

set_option maxRecDepth 16384

noncomputable section

-- The integer operations stay folded, so that a printed word is compared by its shape and is not evaluated.
attribute [local irreducible] Idealize.ShloMosaic.IntOp.andi Idealize.ShloMosaic.IntOp.ori Idealize.ShloMosaic.IntOp.cmpi
  Idealize.ShloMosaic.IntOp.shrui Idealize.ShloMosaic.IntOp.shli Idealize.ShloMosaic.IntOp.addi Idealize.ShloMosaic.IntOp.subi
  Idealize.ShloMosaic.IntOp.minsi Idealize.ShloMosaic.IntOp.maxsi Idealize.ShloMosaic.Scalar.select

namespace Cert.ScalesReference.Value

open Cert.ScalesReference Cert.ScalesReference.Gen
open Idealize.ShloMosaic Idealize.ShloMosaic.TcCoe Idealize.SL.Sem
open Idealize.ShloMosaic.Pipeline (Dat)

variable (m : (ℓ : Loc nD τ sig) → Buf (Elt Bits) ℓ)

/-- At the one grid point every window starts at the origin of its array. -/
theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

/-- The row number at an index of the table. -/
theorem row_eq (j : S8x128.Idx) : iota .tc S8x128 32 [0] iota_S8x128_d0_w32 j = BitVec.ofNat 32 (j 0).val := by
  simp [iota]

/-- The exponent of a history's scale; `c` is the word of one over the format's maximum. -/
def expOf (x : Vec Bits S1x16 .f32) (c : BitVec 32) : BitVec 32 :=
  Cert.Spec.referenceExp (Bits.cmpf32 .oeq (Cert.Spec.top x) 0#32) (Cert.Spec.referenceField (Bits.mulf32 (Cert.Spec.top x) c))

/-- The printed exponent of x. -/
theorem exp_x (hx : Vec Bits S1x16 .f32) :
    Scalar.select (Scalar.cmpf .oeq (k0_pay2 hx) (Scalar.ofBits .f32 0x00000000#32)) 0#32 (Scalar.select (Scalar.ori (Scalar.cmpi .eq (Scalar.andi (Scalar.shrui (Scalar.toBits (k0_pay3 hx)) 23#32) 255#32) 255#32) (Scalar.cmpi .eq (Scalar.andi (Scalar.shrui (Scalar.toBits (k0_pay3 hx)) 23#32) 255#32) 0#32)) 0#32 (Scalar.subi (Scalar.andi (Scalar.shrui (Scalar.toBits (k0_pay3 hx)) 23#32) 255#32) 126#32))
      = expOf hx 0x3B124925#32 := by
  have e : k0_pay2 hx = Cert.Spec.top hx := rfl
  have f : k0_pay3 hx = Cert.Spec.flushed (Bits.mulf32 (k0_pay2 hx) 0x3B124925#32) := rfl
  rw [f, e]
  rfl

/-- The printed exponent of w. -/
theorem exp_w (hw : Vec Bits S1x16 .f32) :
    Scalar.select (Scalar.cmpf .oeq (k0_pay8 hw) (Scalar.ofBits .f32 0x00000000#32)) 0#32 (Scalar.select (Scalar.ori (Scalar.cmpi .eq (Scalar.andi (Scalar.shrui (Scalar.toBits (k0_pay9 hw)) 23#32) 255#32) 255#32) (Scalar.cmpi .eq (Scalar.andi (Scalar.shrui (Scalar.toBits (k0_pay9 hw)) 23#32) 255#32) 0#32)) 0#32 (Scalar.subi (Scalar.andi (Scalar.shrui (Scalar.toBits (k0_pay9 hw)) 23#32) 255#32) 126#32))
      = expOf hw 0x3B124925#32 := by
  have e : k0_pay8 hw = Cert.Spec.top hw := rfl
  have f : k0_pay9 hw = Cert.Spec.flushed (Bits.mulf32 (k0_pay8 hw) 0x3B124925#32) := rfl
  rw [f, e]
  rfl

/-- The printed exponent of dy. -/
theorem exp_dy (hdy : Vec Bits S1x16 .f32) :
    Scalar.select (Scalar.cmpf .oeq (k0_pay13 hdy) (Scalar.ofBits .f32 0x00000000#32)) 0#32 (Scalar.select (Scalar.ori (Scalar.cmpi .eq (Scalar.andi (Scalar.shrui (Scalar.toBits (k0_pay14 hdy)) 23#32) 255#32) 255#32) (Scalar.cmpi .eq (Scalar.andi (Scalar.shrui (Scalar.toBits (k0_pay14 hdy)) 23#32) 255#32) 0#32)) 0#32 (Scalar.subi (Scalar.andi (Scalar.shrui (Scalar.toBits (k0_pay14 hdy)) 23#32) 255#32) 126#32))
      = expOf hdy 0x37924925#32 := by
  have e : k0_pay13 hdy = Cert.Spec.top hdy := rfl
  have f : k0_pay14 hdy = Cert.Spec.flushed (Bits.mulf32 (k0_pay13 hdy) 0x37924925#32) := rfl
  rw [f, e]
  rfl

/-- The word of one, at `scale` x. -/
theorem one_4 : Scalar.toBits (k0_pay4 (F := Bits)) = Cert.Spec.flushed 0x3F800000#32 := rfl

/-- The word of one, at `scale` x. -/
theorem one_6 : Scalar.toBits (k0_pay6 (F := Bits)) = Cert.Spec.flushed 0x3F800000#32 := rfl

/-- The word of one, at `scale` w. -/
theorem one_11 : Scalar.toBits (k0_pay11 (F := Bits)) = Cert.Spec.flushed 0x3F800000#32 := rfl

/-- The word of one, at `scale` dy. -/
theorem one_15 : Scalar.toBits (k0_pay15 (F := Bits)) = Cert.Spec.flushed 0x3F800000#32 := rfl

/-- The printed word of two to the exponent: `scale_x`. -/
theorem scale_x (one e : BitVec 32) :
    k0_pay5 (F := Bits) e one 2147483648#32
      = Cert.Spec.powOf one e := rfl

/-- The printed word of two to the exponent: `inverse_x`. -/
theorem inverse_x (one e : BitVec 32) :
    k0_pay7 (F := Bits) one (Scalar.andi one 2147483648#32) (Scalar.andi (Scalar.shrui one 23#32) 255#32) (Scalar.andi one 8388607#32) (Scalar.cmpi .eq (Scalar.andi (Scalar.shrui one 23#32) 255#32) 0#32) (Scalar.cmpi .eq (Scalar.andi (Scalar.shrui one 23#32) 255#32) 255#32) (Scalar.minsi (Scalar.maxsi (Scalar.subi 0#32 e) 4294966784#32) 512#32)
      = Cert.Spec.powOf one (IntOp.subi 0#32 e) := rfl

/-- The printed word of two to the exponent: `scale_dy`. -/
theorem scale_dy (one e : BitVec 32) :
    k0_pay16 (F := Bits) one (Scalar.andi one 2147483648#32) (Scalar.cmpi .eq (Scalar.andi (Scalar.shrui one 23#32) 255#32) 0#32) (Scalar.cmpi .eq (Scalar.andi (Scalar.shrui one 23#32) 255#32) 255#32) (Scalar.select (Scalar.cmpi .sle (Scalar.addi (Scalar.andi (Scalar.shrui one 23#32) 255#32) (Scalar.minsi (Scalar.maxsi e 4294966784#32) 512#32)) 0#32) (Scalar.andi one 2147483648#32) (Scalar.select (Scalar.cmpi .sge (Scalar.addi (Scalar.andi (Scalar.shrui one 23#32) 255#32) (Scalar.minsi (Scalar.maxsi e 4294966784#32) 512#32)) 255#32) (Scalar.ori (Scalar.andi one 2147483648#32) 2139095040#32) (Scalar.ori (Scalar.ori (Scalar.andi one 2147483648#32) (Scalar.shli (Scalar.addi (Scalar.andi (Scalar.shrui one 23#32) 255#32) (Scalar.minsi (Scalar.maxsi e 4294966784#32) 512#32)) 23#32)) (Scalar.andi one 8388607#32))))
      = Cert.Spec.powOf one e := rfl

/-- The printed word of two to the exponent: `inverse_w`. -/
theorem inverse_w (one e : BitVec 32) :
    k0_pay12 (F := Bits) (Scalar.subi 0#32 e) one
      = Cert.Spec.powOf one (IntOp.subi 0#32 e) := rfl

/-- The printed word of two to the exponent, where the zero flag is read from `a` inside: `scale_w`. -/
theorem scale_w (a : Bits .f32) (i : BitVec 32) :
    k0_pay10 (F := Bits) a i
      = Cert.Spec.referencePow (Scalar.select (Scalar.cmpf .oeq a (Scalar.ofBits .f32 0x00000000#32)) 0#32 i) := rfl

/-- The printed choice of the sixth row. -/
theorem inverse_dy (e : BitVec 32) (j : S8x128.Idx) :
    k0_pay17 (F := Bits) e j = Scalar.select (IntOp.cmpi .eq (iota .tc S8x128 32 [0] iota_S8x128_d0_w32 j) 5#32)
      (Cert.Spec.referencePow (IntOp.subi 0#32 e)) 0#32 := rfl

/-- The printed choice of the first five rows. -/
theorem rows (a0 a1 a2 a3 a4 : Bits .f32) (rest : FVec Bits S8x128 .f32) (j : S8x128.Idx) :
    k0_pay1 a0 a3 a1 a2 (iota .tc S8x128 32 [0] iota_S8x128_d0_w32) rest k0_pay18 (k0_pay19 a4) j
      = Scalar.select (IntOp.cmpi .eq (iota .tc S8x128 32 [0] iota_S8x128_d0_w32 j) 0#32) a0
          (Scalar.select (IntOp.cmpi .eq (iota .tc S8x128 32 [0] iota_S8x128_d0_w32 j) 1#32) a1
            (Scalar.select (IntOp.cmpi .eq (iota .tc S8x128 32 [0] iota_S8x128_d0_w32 j) 2#32) a2
              (Scalar.select (IntOp.cmpi .eq (iota .tc S8x128 32 [0] iota_S8x128_d0_w32 j) 3#32) a3
                (Scalar.select (IntOp.cmpi .eq (iota .tc S8x128 32 [0] iota_S8x128_d0_w32 j) 4#32) a4 (rest j))))) := rfl

/-- The stored table at an index is the entry of its row. -/
theorem table_eq (hx hw hdy : Vec Bits S1x16 .f32) (j : S8x128.Idx) :
    k0_pay1 (k0_pay5 (F := Bits) (Scalar.select (Scalar.cmpf .oeq (k0_pay2 hx) (Scalar.ofBits .f32 0x00000000#32)) 0#32 (Scalar.select (Scalar.ori (Scalar.cmpi .eq (Scalar.andi (Scalar.shrui (Scalar.toBits (k0_pay3 hx)) 23#32) 255#32) 255#32) (Scalar.cmpi .eq (Scalar.andi (Scalar.shrui (Scalar.toBits (k0_pay3 hx)) 23#32) 255#32) 0#32)) 0#32 (Scalar.subi (Scalar.andi (Scalar.shrui (Scalar.toBits (k0_pay3 hx)) 23#32) 255#32) 126#32))) (Scalar.toBits (k0_pay4 (F := Bits))) 2147483648#32) (k0_pay7 (F := Bits) (Scalar.toBits (k0_pay6 (F := Bits))) (Scalar.andi (Scalar.toBits (k0_pay6 (F := Bits))) 2147483648#32) (Scalar.andi (Scalar.shrui (Scalar.toBits (k0_pay6 (F := Bits))) 23#32) 255#32) (Scalar.andi (Scalar.toBits (k0_pay6 (F := Bits))) 8388607#32) (Scalar.cmpi .eq (Scalar.andi (Scalar.shrui (Scalar.toBits (k0_pay6 (F := Bits))) 23#32) 255#32) 0#32) (Scalar.cmpi .eq (Scalar.andi (Scalar.shrui (Scalar.toBits (k0_pay6 (F := Bits))) 23#32) 255#32) 255#32) (Scalar.minsi (Scalar.maxsi (Scalar.subi 0#32 (Scalar.select (Scalar.cmpf .oeq (k0_pay2 hx) (Scalar.ofBits .f32 0x00000000#32)) 0#32 (Scalar.select (Scalar.ori (Scalar.cmpi .eq (Scalar.andi (Scalar.shrui (Scalar.toBits (k0_pay3 hx)) 23#32) 255#32) 255#32) (Scalar.cmpi .eq (Scalar.andi (Scalar.shrui (Scalar.toBits (k0_pay3 hx)) 23#32) 255#32) 0#32)) 0#32 (Scalar.subi (Scalar.andi (Scalar.shrui (Scalar.toBits (k0_pay3 hx)) 23#32) 255#32) 126#32)))) 4294966784#32) 512#32)) (k0_pay10 (k0_pay8 hw) (Scalar.select (Scalar.ori (Scalar.cmpi .eq (Scalar.andi (Scalar.shrui (Scalar.toBits (k0_pay9 hw)) 23#32) 255#32) 255#32) (Scalar.cmpi .eq (Scalar.andi (Scalar.shrui (Scalar.toBits (k0_pay9 hw)) 23#32) 255#32) 0#32)) 0#32 (Scalar.subi (Scalar.andi (Scalar.shrui (Scalar.toBits (k0_pay9 hw)) 23#32) 255#32) 126#32))) (k0_pay16 (F := Bits) (Scalar.toBits (k0_pay15 (F := Bits))) (Scalar.andi (Scalar.toBits (k0_pay15 (F := Bits))) 2147483648#32) (Scalar.cmpi .eq (Scalar.andi (Scalar.shrui (Scalar.toBits (k0_pay15 (F := Bits))) 23#32) 255#32) 0#32) (Scalar.cmpi .eq (Scalar.andi (Scalar.shrui (Scalar.toBits (k0_pay15 (F := Bits))) 23#32) 255#32) 255#32) (Scalar.select (Scalar.cmpi .sle (Scalar.addi (Scalar.andi (Scalar.shrui (Scalar.toBits (k0_pay15 (F := Bits))) 23#32) 255#32) (Scalar.minsi (Scalar.maxsi (Scalar.select (Scalar.cmpf .oeq (k0_pay13 hdy) (Scalar.ofBits .f32 0x00000000#32)) 0#32 (Scalar.select (Scalar.ori (Scalar.cmpi .eq (Scalar.andi (Scalar.shrui (Scalar.toBits (k0_pay14 hdy)) 23#32) 255#32) 255#32) (Scalar.cmpi .eq (Scalar.andi (Scalar.shrui (Scalar.toBits (k0_pay14 hdy)) 23#32) 255#32) 0#32)) 0#32 (Scalar.subi (Scalar.andi (Scalar.shrui (Scalar.toBits (k0_pay14 hdy)) 23#32) 255#32) 126#32))) 4294966784#32) 512#32)) 0#32) (Scalar.andi (Scalar.toBits (k0_pay15 (F := Bits))) 2147483648#32) (Scalar.select (Scalar.cmpi .sge (Scalar.addi (Scalar.andi (Scalar.shrui (Scalar.toBits (k0_pay15 (F := Bits))) 23#32) 255#32) (Scalar.minsi (Scalar.maxsi (Scalar.select (Scalar.cmpf .oeq (k0_pay13 hdy) (Scalar.ofBits .f32 0x00000000#32)) 0#32 (Scalar.select (Scalar.ori (Scalar.cmpi .eq (Scalar.andi (Scalar.shrui (Scalar.toBits (k0_pay14 hdy)) 23#32) 255#32) 255#32) (Scalar.cmpi .eq (Scalar.andi (Scalar.shrui (Scalar.toBits (k0_pay14 hdy)) 23#32) 255#32) 0#32)) 0#32 (Scalar.subi (Scalar.andi (Scalar.shrui (Scalar.toBits (k0_pay14 hdy)) 23#32) 255#32) 126#32))) 4294966784#32) 512#32)) 255#32) (Scalar.ori (Scalar.andi (Scalar.toBits (k0_pay15 (F := Bits))) 2147483648#32) 2139095040#32) (Scalar.ori (Scalar.ori (Scalar.andi (Scalar.toBits (k0_pay15 (F := Bits))) 2147483648#32) (Scalar.shli (Scalar.addi (Scalar.andi (Scalar.shrui (Scalar.toBits (k0_pay15 (F := Bits))) 23#32) 255#32) (Scalar.minsi (Scalar.maxsi (Scalar.select (Scalar.cmpf .oeq (k0_pay13 hdy) (Scalar.ofBits .f32 0x00000000#32)) 0#32 (Scalar.select (Scalar.ori (Scalar.cmpi .eq (Scalar.andi (Scalar.shrui (Scalar.toBits (k0_pay14 hdy)) 23#32) 255#32) 255#32) (Scalar.cmpi .eq (Scalar.andi (Scalar.shrui (Scalar.toBits (k0_pay14 hdy)) 23#32) 255#32) 0#32)) 0#32 (Scalar.subi (Scalar.andi (Scalar.shrui (Scalar.toBits (k0_pay14 hdy)) 23#32) 255#32) 126#32))) 4294966784#32) 512#32)) 23#32)) (Scalar.andi (Scalar.toBits (k0_pay15 (F := Bits))) 8388607#32))))) (iota .tc S8x128 32 [0] iota_S8x128_d0_w32) (k0_pay17 (F := Bits) (Scalar.select (Scalar.cmpf .oeq (k0_pay13 hdy) (Scalar.ofBits .f32 0x00000000#32)) 0#32 (Scalar.select (Scalar.ori (Scalar.cmpi .eq (Scalar.andi (Scalar.shrui (Scalar.toBits (k0_pay14 hdy)) 23#32) 255#32) 255#32) (Scalar.cmpi .eq (Scalar.andi (Scalar.shrui (Scalar.toBits (k0_pay14 hdy)) 23#32) 255#32) 0#32)) 0#32 (Scalar.subi (Scalar.andi (Scalar.shrui (Scalar.toBits (k0_pay14 hdy)) 23#32) 255#32) 126#32)))) k0_pay18 (k0_pay19 (k0_pay12 (F := Bits) (Scalar.subi 0#32 (Scalar.select (Scalar.cmpf .oeq (k0_pay8 hw) (Scalar.ofBits .f32 0x00000000#32)) 0#32 (Scalar.select (Scalar.ori (Scalar.cmpi .eq (Scalar.andi (Scalar.shrui (Scalar.toBits (k0_pay9 hw)) 23#32) 255#32) 255#32) (Scalar.cmpi .eq (Scalar.andi (Scalar.shrui (Scalar.toBits (k0_pay9 hw)) 23#32) 255#32) 0#32)) 0#32 (Scalar.subi (Scalar.andi (Scalar.shrui (Scalar.toBits (k0_pay9 hw)) 23#32) 255#32) 126#32)))) (Scalar.toBits (k0_pay11 (F := Bits))))) j
      = Cert.Spec.entry hx hw hdy (j 0).val := by
  rw [rows, inverse_dy, exp_x, exp_dy, exp_w, scale_w, exp_w, one_4, one_6, one_11, one_15, scale_x, inverse_x, scale_dy, inverse_w, row_eq]
  refine (Cert.Spec.nest_down _ _ _ _ _ _ _ (j 0).isLt).trans ?_
  unfold Cert.Spec.entry Cert.Spec.scale Cert.Spec.inverse
  simp only [Cert.Spec.scale_eq, Cert.Spec.inverse_eq]
  rfl

set_option maxHeartbeats 1000000 in
/-- The table after the run, from the three histories. -/
theorem final (c : Dev nD) : (dats m 0 c).arrAt 3 cfg0.N
    = fun j : S8x128.Idx => Cert.Spec.entry (shapeCast S1x16 (m ((c : Thread nD τ).loc main_arg0)) shapeCasts_S16_S1x16) (shapeCast S1x16 (m ((c : Thread nD τ).loc main_arg1)) shapeCasts_S16_S1x16) (shapeCast S1x16 (m ((c : Thread nD τ).loc main_arg2)) shapeCasts_S16_S1x16) (j 0).val := by
  refine (dats m 0 c).arrAt_eq_of_after_last 3 t0_0 (by decide +kernel) _ fun j => ?_
  have e0 : iblk m c 0 t0_0 = shapeCast S1x16 (m ((c : Thread nD τ).loc main_arg0)) shapeCasts_S16_S1x16 := by
    funext i
    blk_point [iblk, V, idx t0_0]
  have e1 : iblk m c 1 t0_0 = shapeCast S1x16 (m ((c : Thread nD τ).loc main_arg1)) shapeCasts_S16_S1x16 := by
    funext i
    blk_point [iblk, V, idx t0_0]
  have e2 : iblk m c 2 t0_0 = shapeCast S1x16 (m ((c : Thread nD τ).loc main_arg2)) shapeCasts_S16_S1x16 := by
    funext i
    blk_point [iblk, V, idx t0_0]
  blk_simp
  rw [after0_3]
  frame_out
  rw [e0, e1, e2]
  exact table_eq _ _ _ j

end Cert.ScalesReference.Value

end
-- ==== Proof.ScalesPair.lean ====
/-
  THE PAIR OF THE SCALES: kernel and reference, each run at bit patterns, end with the same table.
-/
module

public import proofs.«01_k».proof.Defs
public import proofs.«01_k».proof.Proof.ScalesKernel
public import proofs.«01_k».proof.Proof.ScalesReference
public import Idealize.ShloMosaic.Lib.Claim

@[expose] public section

noncomputable section

open Idealize.ShloMosaic Idealize.SL.Sem

/-- Kernel and reference end with the same words in the table, and leave the three histories unchanged. -/
theorem Cert.Pair.Scales : Cert.bitexact_Scales_ScalesReference := by
  intro m g m' g' _ hagree
  refine ⟨_, (θ_run _ _ _).mono (fun r h c => ⟨(h c).1.trans (Cert.Scales.Value.final m c), (h c).2⟩) (Cert.Scales.Value.run_blocks m g),
    (θ_run _ _ _).mono (fun r h c => ?_) (Cert.ScalesReference.Value.run_blocks m' g')⟩
  obtain ⟨h0, kept⟩ := h c
  obtain ⟨e0, e1, e2⟩ := hagree c
  refine ⟨h0.trans ((Cert.ScalesReference.Value.final m' c).trans ?_), kept⟩
  rw [e0, e1, e2]

end
-- ==== Proof.lean ====
module

public import proofs.«01_k».proof.Defs
public import proofs.«01_k».proof.Proof.Gen.FwdDx
public import proofs.«01_k».proof.Proof.Gen.FwdDx.Skeleton
public import proofs.«01_k».proof.Proof.Gen.FwdDx.Launch
public import proofs.«01_k».proof.Proof.Gen.FwdDx.Points
public import proofs.«01_k».proof.Proof.Gen.FwdDx.Frame
public import proofs.«01_k».proof.Proof.Gen.FwdDxIdeal
public import proofs.«01_k».proof.Proof.Gen.FwdDxIdeal.Skeleton
public import proofs.«01_k».proof.Proof.Gen.FwdDxIdeal.Launch
public import proofs.«01_k».proof.Proof.Gen.FwdDxIdeal.Points
public import proofs.«01_k».proof.Proof.Gen.FwdDxIdeal.Frame
public import proofs.«01_k».proof.Proof.Gen.FwdDxReferenceIdeal
public import proofs.«01_k».proof.Proof.Gen.FwdDxReferenceIdeal.Skeleton
public import proofs.«01_k».proof.Proof.Gen.FwdDxReferenceIdeal.Launch
public import proofs.«01_k».proof.Proof.Gen.FwdDxReferenceIdeal.Points
public import proofs.«01_k».proof.Proof.Gen.FwdDxReferenceIdeal.Frame
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwReferenceIdeal
public import proofs.«01_k».proof.Proof.Gen.DwReferenceIdeal.Skeleton
public import proofs.«01_k».proof.Proof.Gen.DwReferenceIdeal.Launch
public import proofs.«01_k».proof.Proof.Gen.DwReferenceIdeal.Points
public import proofs.«01_k».proof.Proof.Gen.DwReferenceIdeal.Frame
public import proofs.«01_k».proof.Proof.Gen.QuantX
public import proofs.«01_k».proof.Proof.Gen.QuantX.Skeleton
public import proofs.«01_k».proof.Proof.Gen.QuantX.Launch
public import proofs.«01_k».proof.Proof.Gen.QuantX.Points
public import proofs.«01_k».proof.Proof.Gen.QuantX.Frame
public import proofs.«01_k».proof.Proof.Gen.QuantXIdeal
public import proofs.«01_k».proof.Proof.Gen.QuantXIdeal.Skeleton
public import proofs.«01_k».proof.Proof.Gen.QuantXIdeal.Launch
public import proofs.«01_k».proof.Proof.Gen.QuantXIdeal.Points
public import proofs.«01_k».proof.Proof.Gen.QuantXIdeal.Frame
public import proofs.«01_k».proof.Proof.Gen.QuantXReferenceIdeal
public import proofs.«01_k».proof.Proof.Gen.QuantXReferenceIdeal.Skeleton
public import proofs.«01_k».proof.Proof.Gen.QuantXReferenceIdeal.Launch
public import proofs.«01_k».proof.Proof.Gen.QuantXReferenceIdeal.Points
public import proofs.«01_k».proof.Proof.Gen.QuantXReferenceIdeal.Frame
public import proofs.«01_k».proof.Proof.Gen.QuantW
public import proofs.«01_k».proof.Proof.Gen.QuantW.Skeleton
public import proofs.«01_k».proof.Proof.Gen.QuantW.Launch
public import proofs.«01_k».proof.Proof.Gen.QuantW.Points
public import proofs.«01_k».proof.Proof.Gen.QuantW.Frame
public import proofs.«01_k».proof.Proof.Gen.QuantWIdeal
public import proofs.«01_k».proof.Proof.Gen.QuantWIdeal.Skeleton
public import proofs.«01_k».proof.Proof.Gen.QuantWIdeal.Launch
public import proofs.«01_k».proof.Proof.Gen.QuantWIdeal.Points
public import proofs.«01_k».proof.Proof.Gen.QuantWIdeal.Frame
public import proofs.«01_k».proof.Proof.Gen.QuantWReferenceIdeal
public import proofs.«01_k».proof.Proof.Gen.QuantWReferenceIdeal.Skeleton
public import proofs.«01_k».proof.Proof.Gen.QuantWReferenceIdeal.Launch
public import proofs.«01_k».proof.Proof.Gen.QuantWReferenceIdeal.Points
public import proofs.«01_k».proof.Proof.Gen.QuantWReferenceIdeal.Frame
public import proofs.«01_k».proof.Proof.Gen.Scales
public import proofs.«01_k».proof.Proof.Gen.Scales.Skeleton
public import proofs.«01_k».proof.Proof.Gen.Scales.Launch
public import proofs.«01_k».proof.Proof.Gen.Scales.Points
public import proofs.«01_k».proof.Proof.Gen.Scales.Frame
public import proofs.«01_k».proof.Proof.Gen.ScalesReference
public import proofs.«01_k».proof.Proof.Gen.ScalesReference.Skeleton
public import proofs.«01_k».proof.Proof.Gen.ScalesReference.Launch
public import proofs.«01_k».proof.Proof.Gen.ScalesReference.Points
public import proofs.«01_k».proof.Proof.Gen.ScalesReference.Frame
public import proofs.«01_k».proof.Proof.Gen.FwdDxIdeal.Run
public import proofs.«01_k».proof.Proof.Gen.FwdDxReferenceIdeal.Run
public import proofs.«01_k».proof.Proof.Gen.DwIdeal.Value
public import proofs.«01_k».proof.Proof.Gen.DwReferenceIdeal.Value
public import proofs.«01_k».proof.Proof.Gen.QuantXIdeal.Run
public import proofs.«01_k».proof.Proof.Gen.QuantXReferenceIdeal.Run
public import proofs.«01_k».proof.Proof.Gen.QuantWIdeal.Run
public import proofs.«01_k».proof.Proof.Gen.QuantWReferenceIdeal.Run
public import proofs.«01_k».proof.Proof.FwdDxPair
public import proofs.«01_k».proof.Proof.DwPair
public import proofs.«01_k».proof.Proof.QuantXPair
public import proofs.«01_k».proof.Proof.QuantWPair
public import proofs.«01_k».proof.Proof.ScalesPair
public import proofs.«01_k».proof.Proof.Gen.Scales.Value
public import proofs.«01_k».proof.Proof.Gen.ScalesReference.Value
public import Idealize.ShloMosaic.Adequacy
public import Idealize.ShloMosaic.Init

@[expose] public section

noncomputable section

namespace Cert.Proof

open Idealize.ShloMosaic Idealize.SL.Sem Cert.FwdDx

/-- Every claim: the fourteen frames, then for each of the four ideal pairs that the ideal program is preserved and the two programs agree, then
    that the two programs of the scales agree at bit patterns. -/
theorem claim : Cert.Claim := ⟨Cert.FwdDx.Gen.facts, Cert.FwdDxIdeal.Gen.facts, Cert.FwdDxReferenceIdeal.Gen.facts, Cert.Dw.Gen.facts, Cert.DwIdeal.Gen.facts, Cert.DwReferenceIdeal.Gen.facts, Cert.QuantX.Gen.facts, Cert.QuantXIdeal.Gen.facts, Cert.QuantXReferenceIdeal.Gen.facts, Cert.QuantW.Gen.facts, Cert.QuantWIdeal.Gen.facts, Cert.QuantWReferenceIdeal.Gen.facts, Cert.Scales.Gen.facts, Cert.ScalesReference.Gen.facts,
  fun m g _ => Cert.FwdDx.Gen.frame m g,
  fun m g _ => Cert.FwdDxIdeal.Gen.frame m g,
  fun m g _ => Cert.FwdDxReferenceIdeal.Gen.frame m g,
  fun m g _ => Cert.Dw.Gen.frame m g,
  fun m g _ => Cert.DwIdeal.Gen.frame m g,
  fun m g _ => Cert.DwReferenceIdeal.Gen.frame m g,
  fun m g _ => Cert.QuantX.Gen.frame m g,
  fun m g _ => Cert.QuantXIdeal.Gen.frame m g,
  fun m g _ => Cert.QuantXReferenceIdeal.Gen.frame m g,
  fun m g _ => Cert.QuantW.Gen.frame m g,
  fun m g _ => Cert.QuantWIdeal.Gen.frame m g,
  fun m g _ => Cert.QuantWReferenceIdeal.Gen.frame m g,
  fun m g _ => Cert.Scales.Gen.frame m g,
  fun m g _ => Cert.ScalesReference.Gen.frame m g,
  trivial, Cert.Pair.FwdDx,
  trivial, Cert.Pair.Dw,
  trivial, Cert.Pair.QuantX,
  trivial, Cert.Pair.QuantW,
  Cert.Pair.Scales⟩

end Cert.Proof

end
